-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x3x128x128 : Shape := ⟨5, ![4, 256, 3, 128, 128]⟩
abbrev S4x256x1x128x128 : Shape := ⟨5, ![4, 256, 1, 128, 128]⟩
abbrev S4x256x8 : Shape := ⟨3, ![4, 256, 8]⟩
abbrev S_ : Shape := ⟨0, ![]⟩

class Facts : Prop where
  bcast_S_S4x256x3x128x128 : S_.BroadcastsInDim S4x256x3x128x128 (![] : Fin 0 → Fin S4x256x3x128x128.rank)
  reducesTo_S4x256x3x128x128_S_d0_1_2_3_4 : S4x256x3x128x128.ReducesTo [0, 1, 2, 3, 4] S_
  h_S_ : 0 < S_.numel
  bcast_S_S4x256x1x128x128 : S_.BroadcastsInDim S4x256x1x128x128 (![] : Fin 0 → Fin S4x256x1x128x128.rank)
  reducesTo_S4x256x1x128x128_S_d0_1_2_3_4 : S4x256x1x128x128.ReducesTo [0, 1, 2, 3, 4] S_
  bcast_S_S4x256x8 : S_.BroadcastsInDim S4x256x8 (![] : Fin 0 → Fin S4x256x8.rank)
  reducesTo_S4x256x8_S_d0_1_2 : S4x256x8.ReducesTo [0, 1, 2] S_

variable [Facts]

def fn {F : FTy → Type} [FloatOps F] (main_arg0 : FVec F S4x256x3x128x128 .f32) (main_arg1 : FVec F S4x256x1x128x128 .f32) (main_arg2 : FVec F S4x256x8 .f32) : IVec S_ 1 :=
  let main_v0 : FVec F S4x256x3x128x128 .f32 := Host.absf main_arg0
  let main_cst : FVec F S_ .f32 := constant S_ .f32 0x7F800000#32
  let main_v1 : FVec F S4x256x3x128x128 .f32 := broadcastInDim S4x256x3x128x128 ![] bcast_S_S4x256x3x128x128 main_cst
  let main_v2 : IVec S4x256x3x128x128 1 := cmpf .olt main_v0 main_v1
  let main_c : IVec S_ 1 := constantI S_ 1 1#1
  let main_v3 : IVec S_ 1 := (fun x v => Host.reduce IntOp.andi x v reducesTo_S4x256x3x128x128_S_d0_1_2_3_4 h_S_) main_v2 main_c
  let main_v4 : FVec F S4x256x1x128x128 .f32 := Host.absf main_arg1
  let main_cst_0 : FVec F S_ .f32 := constant S_ .f32 0x7F800000#32
  let main_v5 : FVec F S4x256x1x128x128 .f32 := broadcastInDim S4x256x1x128x128 ![] bcast_S_S4x256x1x128x128 main_cst_0
  let main_v6 : IVec S4x256x1x128x128 1 := cmpf .olt main_v4 main_v5
  let main_c_1 : IVec S_ 1 := constantI S_ 1 1#1
  let main_v7 : IVec S_ 1 := (fun x v => Host.reduce IntOp.andi x v reducesTo_S4x256x1x128x128_S_d0_1_2_3_4 h_S_) main_v6 main_c_1
  let main_v8 : IVec S_ 1 := andi main_v3 main_v7
  let main_v9 : FVec F S4x256x8 .f32 := Host.absf main_arg2
  let main_cst_2 : FVec F S_ .f32 := constant S_ .f32 0x7F800000#32
  let main_v10 : FVec F S4x256x8 .f32 := broadcastInDim S4x256x8 ![] bcast_S_S4x256x8 main_cst_2
  let main_v11 : IVec S4x256x8 1 := cmpf .olt main_v9 main_v10
  let main_c_3 : IVec S_ 1 := constantI S_ 1 1#1
  let main_v12 : IVec S_ 1 := (fun x v => Host.reduce IntOp.andi x v reducesTo_S4x256x8_S_d0_1_2 h_S_) main_v11 main_c_3
  let main_v13 : IVec S_ 1 := andi main_v8 main_v12
  main_v13
-- ==== Kernel.lean ====
abbrev S4x256x3x128x128 : Shape := ⟨5, ![4, 256, 3, 128, 128]⟩
abbrev S4x256x1x128x128 : Shape := ⟨5, ![4, 256, 1, 128, 128]⟩
abbrev S4x256x8 : Shape := ⟨3, ![4, 256, 8]⟩
abbrev S4x3x128x128 : Shape := ⟨4, ![4, 3, 128, 128]⟩
abbrev S4x1x128x128 : Shape := ⟨4, ![4, 1, 128, 128]⟩
abbrev S3x20x1x128x128 : Shape := ⟨5, ![3, 20, 1, 128, 128]⟩
abbrev S3x20x3x128x128 : Shape := ⟨5, ![3, 20, 3, 128, 128]⟩
abbrev S128x128 : Shape := ⟨2, ![128, 128]⟩
abbrev S3x128x128 : Shape := ⟨3, ![3, 128, 128]⟩
abbrev S3x2 : Shape := ⟨2, ![3, 2]⟩
abbrev S1x1 : Shape := ⟨2, ![1, 1]⟩
abbrev S_ : Shape := ⟨0, ![]⟩
abbrev S1x20x1x128x128 : Shape := ⟨5, ![1, 20, 1, 128, 128]⟩
abbrev S20x1x128x128 : Shape := ⟨4, ![20, 1, 128, 128]⟩
abbrev S1x20x3x128x128 : Shape := ⟨5, ![1, 20, 3, 128, 128]⟩
abbrev S20x3x128x128 : Shape := ⟨4, ![20, 3, 128, 128]⟩
abbrev S64x128 : Shape := ⟨2, ![64, 128]⟩
abbrev S1x1x1x64x128 : Shape := ⟨5, ![1, 1, 1, 64, 128]⟩
abbrev S1x1x1 : Shape := ⟨3, ![1, 1, 1]⟩
abbrev S1x64x128 : Shape := ⟨3, ![1, 64, 128]⟩
abbrev S1 : Shape := ⟨1, ![1]⟩
abbrev S1x4x1x128x128 : Shape := ⟨5, ![1, 4, 1, 128, 128]⟩
abbrev S1x4x3x128x128 : Shape := ⟨5, ![1, 4, 3, 128, 128]⟩
abbrev S1x1x1x128x128 : Shape := ⟨5, ![1, 1, 1, 128, 128]⟩
abbrev S1x128x128 : Shape := ⟨3, ![1, 128, 128]⟩
abbrev S1x1x128x128 : Shape := ⟨4, ![1, 1, 128, 128]⟩

abbrev nBuf : Space → Nat
  | .hbm => 5
  | .vmem => 9
  | .smem => 0
  | _ => 0

abbrev bufTy : (tb : Table) → Fin (tcTables nBuf tb) → BufTy
  | .hbm, ⟨0, _⟩ => ⟨S4x256x3x128x128, .f32⟩
  | .hbm, ⟨1, _⟩ => ⟨S4x256x1x128x128, .f32⟩
  | .hbm, ⟨2, _⟩ => ⟨S4x256x8, .f32⟩
  | .hbm, ⟨3, _⟩ => ⟨S4x3x128x128, .f32⟩
  | .hbm, ⟨4, _⟩ => ⟨S4x1x128x128, .f32⟩
  | .local _ .vmem, ⟨0, _⟩ => ⟨S4x256x8, .f32⟩
  | .local _ .vmem, ⟨1, _⟩ => ⟨S4x3x128x128, .f32⟩
  | .local _ .vmem, ⟨2, _⟩ => ⟨S4x1x128x128, .f32⟩
  | .local _ .vmem, ⟨3, _⟩ => ⟨S3x20x1x128x128, .f32⟩
  | .local _ .vmem, ⟨4, _⟩ => ⟨S3x20x3x128x128, .f32⟩
  | .local _ .vmem, ⟨5, _⟩ => ⟨S128x128, .f32⟩
  | .local _ .vmem, ⟨6, _⟩ => ⟨S3x128x128, .f32⟩
  | .local _ .vmem, ⟨7, _⟩ => ⟨S128x128, .f32⟩
  | .local _ .vmem, ⟨8, _⟩ => ⟨S128x128, .i32⟩
  | _, _ => ⟨S4x256x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_off1 (arg13 : BitVec 32) : Fin 5 → Nat :=
  let c0_i32_5101 : BitVec 32 := 0#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5109 : BitVec 32 := 0#32
  let c0_i32_5110 : BitVec 32 := 0#32
  let c0_i32_5111 : BitVec 32 := 0#32
  ![0, v5722.toNat, 0, 0, 0]

def k0_off2 (arg13 : BitVec 32) : Fin 5 → Nat :=
  let c0_i32_5112 : BitVec 32 := 0#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5120 : BitVec 32 := 0#32
  let c0_i32_5121 : BitVec 32 := 0#32
  let c0_i32_5122 : BitVec 32 := 0#32
  ![0, v5722.toNat, 0, 0, 0]
@[reducible] def k0_t1_loop : Scf.Loop 32 :=
  let c0_i32_5146 : BitVec 32 := 0#32
  let c4_i32_5147 : BitVec 32 := 4#32
  let v5747 : BitVec 32 := Scalar.addi c0_i32_5146 c4_i32_5147
  let c1_i32_5148 : BitVec 32 := 1#32
  ⟨c0_i32_5146, v5747, c1_i32_5148⟩
def k0_off3 (k0_t1 : Fin k0_t1_loop.trips) : Fin 5 → Nat :=
  let c0_5156 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t1
  let v5756 : BitVec 32 := Scalar.subi c3_i32_5155 arg15
  let v5757 : Index := Scalar.indexCast v5756
  let c0_5157 : Index := 0#32
  let c0_5158 : Index := 0#32
  let c0_5159 : Index := 0#32
  ![0, v5757.toNat, 0, 0, 0]
def k0_off4 (k0_t1 : Fin k0_t1_loop.trips) : Fin 5 → Nat :=
  let c0_5170 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t1
  let v5756 : BitVec 32 := Scalar.subi c3_i32_5155 arg15
  let v5772 : Index := Scalar.indexCast v5756
  let c0_5171 : Index := 0#32
  let c0_5172 : Index := 0#32
  let c0_5173 : Index := 0#32
  ![0, v5772.toNat, 0, 0, 0]
def k0_off5 (k0_t1 : Fin k0_t1_loop.trips) : Fin 5 → Nat :=
  let c0_5180 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t1
  let v5756 : BitVec 32 := Scalar.subi c3_i32_5155 arg15
  let v5782 : Index := Scalar.indexCast v5756
  let c1_5181 : Index := 1#32
  let c0_5182 : Index := 0#32
  let c0_5183 : Index := 0#32
  ![0, v5782.toNat, 1, 0, 0]
def k0_off6 (k0_t1 : Fin k0_t1_loop.trips) : Fin 5 → Nat :=
  let c0_5190 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t1
  let v5756 : BitVec 32 := Scalar.subi c3_i32_5155 arg15
  let v5792 : Index := Scalar.indexCast v5756
  let c2_5191 : Index := 2#32
  let c0_5192 : Index := 0#32
  let c0_5193 : Index := 0#32
  ![0, v5792.toNat, 2, 0, 0]
def k0_off7 (arg13 : BitVec 32) (k0_t1 : Fin k0_t1_loop.trips) : Fin 3 → Nat :=
  let c0_5199 : Index := 0#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t1
  let v5756 : BitVec 32 := Scalar.subi c3_i32_5155 arg15
  let v5801 : BitVec 32 := Scalar.addi v5722 v5756
  let v5802 : Index := Scalar.indexCast v5801
  let c2_5200 : Index := 2#32
  ![0, v5802.toNat, 2]
def k0_off8 (arg13 : BitVec 32) (k0_t1 : Fin k0_t1_loop.trips) : Fin 3 → Nat :=
  let c0_5201 : Index := 0#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t1
  let v5756 : BitVec 32 := Scalar.subi c3_i32_5155 arg15
  let v5805 : BitVec 32 := Scalar.addi v5722 v5756
  let v5806 : Index := Scalar.indexCast v5805
  let c3_5202 : Index := 3#32
  ![0, v5806.toNat, 3]

def k0_chk1 (arg13 : BitVec 32) : Prop :=
  (∀ a, (k0_off1 arg13) a + S1x4x1x128x128.size a ≤ S4x256x1x128x128.size a) ∧
  (∀ a, (k0_off2 arg13) a + S1x4x3x128x128.size a ≤ S4x256x3x128x128.size a) ∧
  (∀ k0_t1 : Fin k0_t1_loop.trips, ∀ a, (k0_off7 arg13 k0_t1) a + S1x1x1.size a ≤ S4x256x8.size a) ∧
  (∀ k0_t1 : Fin k0_t1_loop.trips, ∀ a, (k0_off8 arg13 k0_t1) a + S1x1x1.size a ≤ S4x256x8.size a)
theorem k0_off1_inb : ∀ (arg13 : BitVec 32) (k0_hw1 : k0_chk1 arg13), ∀ a, (k0_off1 arg13) a + S1x4x1x128x128.size a ≤ S4x256x1x128x128.size a := fun arg13 k0_hw1 => k0_hw1.1
theorem k0_off2_inb : ∀ (arg13 : BitVec 32) (k0_hw1 : k0_chk1 arg13), ∀ a, (k0_off2 arg13) a + S1x4x3x128x128.size a ≤ S4x256x3x128x128.size a := fun arg13 k0_hw1 => k0_hw1.2.1
theorem k0_off7_inb : ∀ (arg13 : BitVec 32) (k0_hw1 : k0_chk1 arg13) (k0_t1 : Fin k0_t1_loop.trips), ∀ a, (k0_off7 arg13 k0_t1) a + S1x1x1.size a ≤ S4x256x8.size a := fun arg13 k0_hw1 k0_t1 => k0_hw1.2.2.1 k0_t1
theorem k0_off8_inb : ∀ (arg13 : BitVec 32) (k0_hw1 : k0_chk1 arg13) (k0_t1 : Fin k0_t1_loop.trips), ∀ a, (k0_off8 arg13 k0_t1) a + S1x1x1.size a ≤ S4x256x8.size a := fun arg13 k0_hw1 k0_t1 => k0_hw1.2.2.2 k0_t1

def k0_off9 (arg13 : BitVec 32) : Fin 5 → Nat :=
  let c0_i32_5101 : BitVec 32 := 0#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5109 : BitVec 32 := 0#32
  let c0_i32_5110 : BitVec 32 := 0#32
  let c0_i32_5111 : BitVec 32 := 0#32
  ![0, v5721.toNat, 0, 0, 0]

def k0_off10 (arg13 : BitVec 32) : Fin 5 → Nat :=
  let c0_i32_5112 : BitVec 32 := 0#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5120 : BitVec 32 := 0#32
  let c0_i32_5121 : BitVec 32 := 0#32
  let c0_i32_5122 : BitVec 32 := 0#32
  ![0, v5721.toNat, 0, 0, 0]

def k0_chk2 (arg13 : BitVec 32) : Prop :=
  (∀ a, (k0_off9 arg13) a + S1x4x1x128x128.size a ≤ S4x256x1x128x128.size a) ∧
  (∀ a, (k0_off10 arg13) a + S1x4x3x128x128.size a ≤ S4x256x3x128x128.size a)
theorem k0_off9_inb : ∀ (arg13 : BitVec 32) (k0_hw2 : k0_chk2 arg13), ∀ a, (k0_off9 arg13) a + S1x4x1x128x128.size a ≤ S4x256x1x128x128.size a := fun arg13 k0_hw2 => k0_hw2.1
theorem k0_off10_inb : ∀ (arg13 : BitVec 32) (k0_hw2 : k0_chk2 arg13), ∀ a, (k0_off10 arg13) a + S1x4x3x128x128.size a ≤ S4x256x3x128x128.size a := fun arg13 k0_hw2 => k0_hw2.2

@[reducible] def k0_t2_loop : Scf.Loop 32 :=
  let c0_i32_5146 : BitVec 32 := 0#32
  let c4_i32_5147 : BitVec 32 := 4#32
  let v5746 : BitVec 32 := Scalar.addi c0_i32_5146 c4_i32_5147
  let c1_i32_5148 : BitVec 32 := 1#32
  ⟨c0_i32_5146, v5746, c1_i32_5148⟩
def k0_off11 (k0_t2 : Fin k0_t2_loop.trips) : Fin 5 → Nat :=
  let c0_5155 : Index := 0#32
  let c0_i32_5146 : BitVec 32 := 0#32
  let c1_i32_5148 : BitVec 32 := 1#32
  let arg15 : BitVec 32 := Scf.iv c0_i32_5146 c1_i32_5148 k0_t2
  let v5755 : Index := Scalar.indexCast arg15
  let c0_5156 : Index := 0#32
  let c0_5157 : Index := 0#32
  let c0_5158 : Index := 0#32
  ![0, v5755.toNat, 0, 0, 0]
def k0_off12 (k0_t2 : Fin k0_t2_loop.trips) : Fin 5 → Nat :=
  let c0_5170 : Index := 0#32
  let c0_i32_5146 : BitVec 32 := 0#32
  let c1_i32_5148 : BitVec 32 := 1#32
  let arg15 : BitVec 32 := Scf.iv c0_i32_5146 c1_i32_5148 k0_t2
  let v5771 : Index := Scalar.indexCast arg15
  let c0_5171 : Index := 0#32
  let c0_5172 : Index := 0#32
  let c0_5173 : Index := 0#32
  ![0, v5771.toNat, 0, 0, 0]
def k0_off13 (k0_t2 : Fin k0_t2_loop.trips) : Fin 5 → Nat :=
  let c0_5180 : Index := 0#32
  let c0_i32_5146 : BitVec 32 := 0#32
  let c1_i32_5148 : BitVec 32 := 1#32
  let arg15 : BitVec 32 := Scf.iv c0_i32_5146 c1_i32_5148 k0_t2
  let v5781 : Index := Scalar.indexCast arg15
  let c1_5181 : Index := 1#32
  let c0_5182 : Index := 0#32
  let c0_5183 : Index := 0#32
  ![0, v5781.toNat, 1, 0, 0]
def k0_off14 (k0_t2 : Fin k0_t2_loop.trips) : Fin 5 → Nat :=
  let c0_5190 : Index := 0#32
  let c0_i32_5146 : BitVec 32 := 0#32
  let c1_i32_5148 : BitVec 32 := 1#32
  let arg15 : BitVec 32 := Scf.iv c0_i32_5146 c1_i32_5148 k0_t2
  let v5791 : Index := Scalar.indexCast arg15
  let c2_5191 : Index := 2#32
  let c0_5192 : Index := 0#32
  let c0_5193 : Index := 0#32
  ![0, v5791.toNat, 2, 0, 0]
def k0_off15 (arg13 : BitVec 32) : Fin 5 → Nat :=
  let c1_i32_5101 : BitVec 32 := 1#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5109 : BitVec 32 := 0#32
  let c0_i32_5110 : BitVec 32 := 0#32
  let c0_i32_5111 : BitVec 32 := 0#32
  ![1, v5722.toNat, 0, 0, 0]

def k0_off16 (arg13 : BitVec 32) : Fin 5 → Nat :=
  let c1_i32_5112 : BitVec 32 := 1#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5120 : BitVec 32 := 0#32
  let c0_i32_5121 : BitVec 32 := 0#32
  let c0_i32_5122 : BitVec 32 := 0#32
  ![1, v5722.toNat, 0, 0, 0]
@[reducible] def k0_t3_loop : Scf.Loop 32 :=
  let c0_i32_5146 : BitVec 32 := 0#32
  let c4_i32_5147 : BitVec 32 := 4#32
  let v5747 : BitVec 32 := Scalar.addi c0_i32_5146 c4_i32_5147
  let c1_i32_5148 : BitVec 32 := 1#32
  ⟨c0_i32_5146, v5747, c1_i32_5148⟩
def k0_off17 (k0_t3 : Fin k0_t3_loop.trips) : Fin 5 → Nat :=
  let c1_5156 : Index := 1#32
  let c3_i32_5155 : BitVec 32 := 3#32
  let c0_i32_5146 : BitVec 32 := 0#32
  let c1_i32_5148 : BitVec 32 := 1#32
  let arg15 : BitVec 32 := Scf.iv c0_i32_5146 c1_i32_5148 k0_t3
  let v5756 : BitVec 32 := Scalar.subi c3_i32_5155 arg15
  let v5757 : Index := Scalar.indexCast v5756
  let c0_5157 : Index := 0#32
  let c0_5158 : Index := 0#32
  let c0_5159 : Index := 0#32
  ![1, v5757.toNat, 0, 0, 0]
def k0_off18 (k0_t3 : Fin k0_t3_loop.trips) : Fin 5 → Nat :=
  let c1_5170 : Index := 1#32
  let c3_i32_5155 : BitVec 32 := 3#32
  let c0_i32_5146 : BitVec 32 := 0#32
  let c1_i32_5148 : BitVec 32 := 1#32
  let arg15 : BitVec 32 := Scf.iv c0_i32_5146 c1_i32_5148 k0_t3
  let v5756 : BitVec 32 := Scalar.subi c3_i32_5155 arg15
  let v5772 : Index := Scalar.indexCast v5756
  let c0_5171 : Index := 0#32
  let c0_5172 : Index := 0#32
  let c0_5173 : Index := 0#32
  ![1, v5772.toNat, 0, 0, 0]
def k0_off19 (k0_t3 : Fin k0_t3_loop.trips) : Fin 5 → Nat :=
  let c1_5180 : Index := 1#32
  let c3_i32_5155 : BitVec 32 := 3#32
  let c0_i32_5146 : BitVec 32 := 0#32
  let c1_i32_5148 : BitVec 32 := 1#32
  let arg15 : BitVec 32 := Scf.iv c0_i32_5146 c1_i32_5148 k0_t3
  let v5756 : BitVec 32 := Scalar.subi c3_i32_5155 arg15
  let v5782 : Index := Scalar.indexCast v5756
  let c1_5181 : Index := 1#32
  let c0_5182 : Index := 0#32
  let c0_5183 : Index := 0#32
  ![1, v5782.toNat, 1, 0, 0]
def k0_off20 (k0_t3 : Fin k0_t3_loop.trips) : Fin 5 → Nat :=
  let c1_5190 : Index := 1#32
  let c3_i32_5155 : BitVec 32 := 3#32
  let c0_i32_5146 : BitVec 32 := 0#32
  let c1_i32_5148 : BitVec 32 := 1#32
  let arg15 : BitVec 32 := Scf.iv c0_i32_5146 c1_i32_5148 k0_t3
  let v5756 : BitVec 32 := Scalar.subi c3_i32_5155 arg15
  let v5792 : Index := Scalar.indexCast v5756
  let c2_5191 : Index := 2#32
  let c0_5192 : Index := 0#32
  let c0_5193 : Index := 0#32
  ![1, v5792.toNat, 2, 0, 0]
def k0_off21 (arg13 : BitVec 32) (k0_t3 : Fin k0_t3_loop.trips) : Fin 3 → Nat :=
  let c1_5199 : Index := 1#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t3
  let v5756 : BitVec 32 := Scalar.subi c3_i32_5155 arg15
  let v5801 : BitVec 32 := Scalar.addi v5722 v5756
  let v5802 : Index := Scalar.indexCast v5801
  let c2_5200 : Index := 2#32
  ![1, v5802.toNat, 2]
def k0_off22 (arg13 : BitVec 32) (k0_t3 : Fin k0_t3_loop.trips) : Fin 3 → Nat :=
  let c1_5201 : Index := 1#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t3
  let v5756 : BitVec 32 := Scalar.subi c3_i32_5155 arg15
  let v5805 : BitVec 32 := Scalar.addi v5722 v5756
  let v5806 : Index := Scalar.indexCast v5805
  let c3_5202 : Index := 3#32
  ![1, v5806.toNat, 3]

def k0_chk3 (arg13 : BitVec 32) : Prop :=
  (∀ a, (k0_off15 arg13) a + S1x4x1x128x128.size a ≤ S4x256x1x128x128.size a) ∧
  (∀ a, (k0_off16 arg13) a + S1x4x3x128x128.size a ≤ S4x256x3x128x128.size a) ∧
  (∀ k0_t3 : Fin k0_t3_loop.trips, ∀ a, (k0_off21 arg13 k0_t3) a + S1x1x1.size a ≤ S4x256x8.size a) ∧
  (∀ k0_t3 : Fin k0_t3_loop.trips, ∀ a, (k0_off22 arg13 k0_t3) a + S1x1x1.size a ≤ S4x256x8.size a)
theorem k0_off15_inb : ∀ (arg13 : BitVec 32) (k0_hw3 : k0_chk3 arg13), ∀ a, (k0_off15 arg13) a + S1x4x1x128x128.size a ≤ S4x256x1x128x128.size a := fun arg13 k0_hw3 => k0_hw3.1
theorem k0_off16_inb : ∀ (arg13 : BitVec 32) (k0_hw3 : k0_chk3 arg13), ∀ a, (k0_off16 arg13) a + S1x4x3x128x128.size a ≤ S4x256x3x128x128.size a := fun arg13 k0_hw3 => k0_hw3.2.1
theorem k0_off21_inb : ∀ (arg13 : BitVec 32) (k0_hw3 : k0_chk3 arg13) (k0_t3 : Fin k0_t3_loop.trips), ∀ a, (k0_off21 arg13 k0_t3) a + S1x1x1.size a ≤ S4x256x8.size a := fun arg13 k0_hw3 k0_t3 => k0_hw3.2.2.1 k0_t3
theorem k0_off22_inb : ∀ (arg13 : BitVec 32) (k0_hw3 : k0_chk3 arg13) (k0_t3 : Fin k0_t3_loop.trips), ∀ a, (k0_off22 arg13 k0_t3) a + S1x1x1.size a ≤ S4x256x8.size a := fun arg13 k0_hw3 k0_t3 => k0_hw3.2.2.2 k0_t3

def k0_off23 (arg13 : BitVec 32) : Fin 5 → Nat :=
  let c1_i32_5101 : BitVec 32 := 1#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5109 : BitVec 32 := 0#32
  let c0_i32_5110 : BitVec 32 := 0#32
  let c0_i32_5111 : BitVec 32 := 0#32
  ![1, v5721.toNat, 0, 0, 0]

def k0_off24 (arg13 : BitVec 32) : Fin 5 → Nat :=
  let c1_i32_5112 : BitVec 32 := 1#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5120 : BitVec 32 := 0#32
  let c0_i32_5121 : BitVec 32 := 0#32
  let c0_i32_5122 : BitVec 32 := 0#32
  ![1, v5721.toNat, 0, 0, 0]

def k0_chk4 (arg13 : BitVec 32) : Prop :=
  (∀ a, (k0_off23 arg13) a + S1x4x1x128x128.size a ≤ S4x256x1x128x128.size a) ∧
  (∀ a, (k0_off24 arg13) a + S1x4x3x128x128.size a ≤ S4x256x3x128x128.size a)
theorem k0_off23_inb : ∀ (arg13 : BitVec 32) (k0_hw4 : k0_chk4 arg13), ∀ a, (k0_off23 arg13) a + S1x4x1x128x128.size a ≤ S4x256x1x128x128.size a := fun arg13 k0_hw4 => k0_hw4.1
theorem k0_off24_inb : ∀ (arg13 : BitVec 32) (k0_hw4 : k0_chk4 arg13), ∀ a, (k0_off24 arg13) a + S1x4x3x128x128.size a ≤ S4x256x3x128x128.size a := fun arg13 k0_hw4 => k0_hw4.2

@[reducible] def k0_t4_loop : Scf.Loop 32 :=
  let c0_i32_5146 : BitVec 32 := 0#32
  let c4_i32_5147 : BitVec 32 := 4#32
  let v5746 : BitVec 32 := Scalar.addi c0_i32_5146 c4_i32_5147
  let c1_i32_5148 : BitVec 32 := 1#32
  ⟨c0_i32_5146, v5746, c1_i32_5148⟩
def k0_off25 (k0_t4 : Fin k0_t4_loop.trips) : Fin 5 → Nat :=
  let c1_5155 : Index := 1#32
  let c0_i32_5146 : BitVec 32 := 0#32
  let c1_i32_5148 : BitVec 32 := 1#32
  let arg15 : BitVec 32 := Scf.iv c0_i32_5146 c1_i32_5148 k0_t4
  let v5755 : Index := Scalar.indexCast arg15
  let c0_5156 : Index := 0#32
  let c0_5157 : Index := 0#32
  let c0_5158 : Index := 0#32
  ![1, v5755.toNat, 0, 0, 0]
def k0_off26 (k0_t4 : Fin k0_t4_loop.trips) : Fin 5 → Nat :=
  let c1_5170 : Index := 1#32
  let c0_i32_5146 : BitVec 32 := 0#32
  let c1_i32_5148 : BitVec 32 := 1#32
  let arg15 : BitVec 32 := Scf.iv c0_i32_5146 c1_i32_5148 k0_t4
  let v5771 : Index := Scalar.indexCast arg15
  let c0_5171 : Index := 0#32
  let c0_5172 : Index := 0#32
  let c0_5173 : Index := 0#32
  ![1, v5771.toNat, 0, 0, 0]
def k0_off27 (k0_t4 : Fin k0_t4_loop.trips) : Fin 5 → Nat :=
  let c1_5180 : Index := 1#32
  let c0_i32_5146 : BitVec 32 := 0#32
  let c1_i32_5148 : BitVec 32 := 1#32
  let arg15 : BitVec 32 := Scf.iv c0_i32_5146 c1_i32_5148 k0_t4
  let v5781 : Index := Scalar.indexCast arg15
  let c1_5181 : Index := 1#32
  let c0_5182 : Index := 0#32
  let c0_5183 : Index := 0#32
  ![1, v5781.toNat, 1, 0, 0]
def k0_off28 (k0_t4 : Fin k0_t4_loop.trips) : Fin 5 → Nat :=
  let c1_5190 : Index := 1#32
  let c0_i32_5146 : BitVec 32 := 0#32
  let c1_i32_5148 : BitVec 32 := 1#32
  let arg15 : BitVec 32 := Scf.iv c0_i32_5146 c1_i32_5148 k0_t4
  let v5791 : Index := Scalar.indexCast arg15
  let c2_5191 : Index := 2#32
  let c0_5192 : Index := 0#32
  let c0_5193 : Index := 0#32
  ![1, v5791.toNat, 2, 0, 0]
def k0_off29 (arg13 : BitVec 32) : Fin 5 → Nat :=
  let c2_i32_5101 : BitVec 32 := 2#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5109 : BitVec 32 := 0#32
  let c0_i32_5110 : BitVec 32 := 0#32
  let c0_i32_5111 : BitVec 32 := 0#32
  ![2, v5722.toNat, 0, 0, 0]

def k0_off30 (arg13 : BitVec 32) : Fin 5 → Nat :=
  let c2_i32_5112 : BitVec 32 := 2#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5120 : BitVec 32 := 0#32
  let c0_i32_5121 : BitVec 32 := 0#32
  let c0_i32_5122 : BitVec 32 := 0#32
  ![2, v5722.toNat, 0, 0, 0]
@[reducible] def k0_t5_loop : Scf.Loop 32 :=
  let c0_i32_5146 : BitVec 32 := 0#32
  let c4_i32_5147 : BitVec 32 := 4#32
  let v5747 : BitVec 32 := Scalar.addi c0_i32_5146 c4_i32_5147
  let c1_i32_5148 : BitVec 32 := 1#32
  ⟨c0_i32_5146, v5747, c1_i32_5148⟩
def k0_off31 (k0_t5 : Fin k0_t5_loop.trips) : Fin 5 → Nat :=
  let c2_5156 : Index := 2#32
  let c3_i32_5155 : BitVec 32 := 3#32
  let c0_i32_5146 : BitVec 32 := 0#32
  let c1_i32_5148 : BitVec 32 := 1#32
  let arg15 : BitVec 32 := Scf.iv c0_i32_5146 c1_i32_5148 k0_t5
  let v5756 : BitVec 32 := Scalar.subi c3_i32_5155 arg15
  let v5757 : Index := Scalar.indexCast v5756
  let c0_5157 : Index := 0#32
  let c0_5158 : Index := 0#32
  let c0_5159 : Index := 0#32
  ![2, v5757.toNat, 0, 0, 0]
def k0_off32 (k0_t5 : Fin k0_t5_loop.trips) : Fin 5 → Nat :=
  let c2_5170 : Index := 2#32
  let c3_i32_5155 : BitVec 32 := 3#32
  let c0_i32_5146 : BitVec 32 := 0#32
  let c1_i32_5148 : BitVec 32 := 1#32
  let arg15 : BitVec 32 := Scf.iv c0_i32_5146 c1_i32_5148 k0_t5
  let v5756 : BitVec 32 := Scalar.subi c3_i32_5155 arg15
  let v5772 : Index := Scalar.indexCast v5756
  let c0_5171 : Index := 0#32
  let c0_5172 : Index := 0#32
  let c0_5173 : Index := 0#32
  ![2, v5772.toNat, 0, 0, 0]
def k0_off33 (k0_t5 : Fin k0_t5_loop.trips) : Fin 5 → Nat :=
  let c2_5180 : Index := 2#32
  let c3_i32_5155 : BitVec 32 := 3#32
  let c0_i32_5146 : BitVec 32 := 0#32
  let c1_i32_5148 : BitVec 32 := 1#32
  let arg15 : BitVec 32 := Scf.iv c0_i32_5146 c1_i32_5148 k0_t5
  let v5756 : BitVec 32 := Scalar.subi c3_i32_5155 arg15
  let v5782 : Index := Scalar.indexCast v5756
  let c1_5181 : Index := 1#32
  let c0_5182 : Index := 0#32
  let c0_5183 : Index := 0#32
  ![2, v5782.toNat, 1, 0, 0]
def k0_off34 (k0_t5 : Fin k0_t5_loop.trips) : Fin 5 → Nat :=
  let c2_5190 : Index := 2#32
  let c3_i32_5155 : BitVec 32 := 3#32
  let c0_i32_5146 : BitVec 32 := 0#32
  let c1_i32_5148 : BitVec 32 := 1#32
  let arg15 : BitVec 32 := Scf.iv c0_i32_5146 c1_i32_5148 k0_t5
  let v5756 : BitVec 32 := Scalar.subi c3_i32_5155 arg15
  let v5792 : Index := Scalar.indexCast v5756
  let c2_5191 : Index := 2#32
  let c0_5192 : Index := 0#32
  let c0_5193 : Index := 0#32
  ![2, v5792.toNat, 2, 0, 0]
def k0_off35 (arg13 : BitVec 32) (k0_t5 : Fin k0_t5_loop.trips) : Fin 3 → Nat :=
  let c2_5199 : Index := 2#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t5
  let v5756 : BitVec 32 := Scalar.subi c3_i32_5155 arg15
  let v5801 : BitVec 32 := Scalar.addi v5722 v5756
  let v5802 : Index := Scalar.indexCast v5801
  let c2_5200 : Index := 2#32
  ![2, v5802.toNat, 2]
def k0_off36 (arg13 : BitVec 32) (k0_t5 : Fin k0_t5_loop.trips) : Fin 3 → Nat :=
  let c2_5201 : Index := 2#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t5
  let v5756 : BitVec 32 := Scalar.subi c3_i32_5155 arg15
  let v5805 : BitVec 32 := Scalar.addi v5722 v5756
  let v5806 : Index := Scalar.indexCast v5805
  let c3_5202 : Index := 3#32
  ![2, v5806.toNat, 3]

def k0_chk5 (arg13 : BitVec 32) : Prop :=
  (∀ a, (k0_off29 arg13) a + S1x4x1x128x128.size a ≤ S4x256x1x128x128.size a) ∧
  (∀ a, (k0_off30 arg13) a + S1x4x3x128x128.size a ≤ S4x256x3x128x128.size a) ∧
  (∀ k0_t5 : Fin k0_t5_loop.trips, ∀ a, (k0_off35 arg13 k0_t5) a + S1x1x1.size a ≤ S4x256x8.size a) ∧
  (∀ k0_t5 : Fin k0_t5_loop.trips, ∀ a, (k0_off36 arg13 k0_t5) a + S1x1x1.size a ≤ S4x256x8.size a)
theorem k0_off29_inb : ∀ (arg13 : BitVec 32) (k0_hw5 : k0_chk5 arg13), ∀ a, (k0_off29 arg13) a + S1x4x1x128x128.size a ≤ S4x256x1x128x128.size a := fun arg13 k0_hw5 => k0_hw5.1
theorem k0_off30_inb : ∀ (arg13 : BitVec 32) (k0_hw5 : k0_chk5 arg13), ∀ a, (k0_off30 arg13) a + S1x4x3x128x128.size a ≤ S4x256x3x128x128.size a := fun arg13 k0_hw5 => k0_hw5.2.1
theorem k0_off35_inb : ∀ (arg13 : BitVec 32) (k0_hw5 : k0_chk5 arg13) (k0_t5 : Fin k0_t5_loop.trips), ∀ a, (k0_off35 arg13 k0_t5) a + S1x1x1.size a ≤ S4x256x8.size a := fun arg13 k0_hw5 k0_t5 => k0_hw5.2.2.1 k0_t5
theorem k0_off36_inb : ∀ (arg13 : BitVec 32) (k0_hw5 : k0_chk5 arg13) (k0_t5 : Fin k0_t5_loop.trips), ∀ a, (k0_off36 arg13 k0_t5) a + S1x1x1.size a ≤ S4x256x8.size a := fun arg13 k0_hw5 k0_t5 => k0_hw5.2.2.2 k0_t5

def k0_off37 (arg13 : BitVec 32) : Fin 5 → Nat :=
  let c2_i32_5101 : BitVec 32 := 2#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5109 : BitVec 32 := 0#32
  let c0_i32_5110 : BitVec 32 := 0#32
  let c0_i32_5111 : BitVec 32 := 0#32
  ![2, v5721.toNat, 0, 0, 0]

def k0_off38 (arg13 : BitVec 32) : Fin 5 → Nat :=
  let c2_i32_5112 : BitVec 32 := 2#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5120 : BitVec 32 := 0#32
  let c0_i32_5121 : BitVec 32 := 0#32
  let c0_i32_5122 : BitVec 32 := 0#32
  ![2, v5721.toNat, 0, 0, 0]

def k0_chk6 (arg13 : BitVec 32) : Prop :=
  (∀ a, (k0_off37 arg13) a + S1x4x1x128x128.size a ≤ S4x256x1x128x128.size a) ∧
  (∀ a, (k0_off38 arg13) a + S1x4x3x128x128.size a ≤ S4x256x3x128x128.size a)
theorem k0_off37_inb : ∀ (arg13 : BitVec 32) (k0_hw6 : k0_chk6 arg13), ∀ a, (k0_off37 arg13) a + S1x4x1x128x128.size a ≤ S4x256x1x128x128.size a := fun arg13 k0_hw6 => k0_hw6.1
theorem k0_off38_inb : ∀ (arg13 : BitVec 32) (k0_hw6 : k0_chk6 arg13), ∀ a, (k0_off38 arg13) a + S1x4x3x128x128.size a ≤ S4x256x3x128x128.size a := fun arg13 k0_hw6 => k0_hw6.2

@[reducible] def k0_t6_loop : Scf.Loop 32 :=
  let c0_i32_5146 : BitVec 32 := 0#32
  let c4_i32_5147 : BitVec 32 := 4#32
  let v5746 : BitVec 32 := Scalar.addi c0_i32_5146 c4_i32_5147
  let c1_i32_5148 : BitVec 32 := 1#32
  ⟨c0_i32_5146, v5746, c1_i32_5148⟩
def k0_off39 (k0_t6 : Fin k0_t6_loop.trips) : Fin 5 → Nat :=
  let c2_5155 : Index := 2#32
  let c0_i32_5146 : BitVec 32 := 0#32
  let c1_i32_5148 : BitVec 32 := 1#32
  let arg15 : BitVec 32 := Scf.iv c0_i32_5146 c1_i32_5148 k0_t6
  let v5755 : Index := Scalar.indexCast arg15
  let c0_5156 : Index := 0#32
  let c0_5157 : Index := 0#32
  let c0_5158 : Index := 0#32
  ![2, v5755.toNat, 0, 0, 0]
def k0_off40 (k0_t6 : Fin k0_t6_loop.trips) : Fin 5 → Nat :=
  let c2_5170 : Index := 2#32
  let c0_i32_5146 : BitVec 32 := 0#32
  let c1_i32_5148 : BitVec 32 := 1#32
  let arg15 : BitVec 32 := Scf.iv c0_i32_5146 c1_i32_5148 k0_t6
  let v5771 : Index := Scalar.indexCast arg15
  let c0_5171 : Index := 0#32
  let c0_5172 : Index := 0#32
  let c0_5173 : Index := 0#32
  ![2, v5771.toNat, 0, 0, 0]
def k0_off41 (k0_t6 : Fin k0_t6_loop.trips) : Fin 5 → Nat :=
  let c2_5180 : Index := 2#32
  let c0_i32_5146 : BitVec 32 := 0#32
  let c1_i32_5148 : BitVec 32 := 1#32
  let arg15 : BitVec 32 := Scf.iv c0_i32_5146 c1_i32_5148 k0_t6
  let v5781 : Index := Scalar.indexCast arg15
  let c1_5181 : Index := 1#32
  let c0_5182 : Index := 0#32
  let c0_5183 : Index := 0#32
  ![2, v5781.toNat, 1, 0, 0]
def k0_off42 (k0_t6 : Fin k0_t6_loop.trips) : Fin 5 → Nat :=
  let c2_5190 : Index := 2#32
  let c0_i32_5146 : BitVec 32 := 0#32
  let c1_i32_5148 : BitVec 32 := 1#32
  let arg15 : BitVec 32 := Scf.iv c0_i32_5146 c1_i32_5148 k0_t6
  let v5791 : Index := Scalar.indexCast arg15
  let c2_5191 : Index := 2#32
  let c0_5192 : Index := 0#32
  let c0_5193 : Index := 0#32
  ![2, v5791.toNat, 2, 0, 0]
def k0_off43 (arg13 : BitVec 32) : Fin 5 → Nat :=
  let c3_i32_5101 : BitVec 32 := 3#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5109 : BitVec 32 := 0#32
  let c0_i32_5110 : BitVec 32 := 0#32
  let c0_i32_5111 : BitVec 32 := 0#32
  ![3, v5722.toNat, 0, 0, 0]

def k0_off44 (arg13 : BitVec 32) : Fin 5 → Nat :=
  let c3_i32_5112 : BitVec 32 := 3#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c0_i32_5120 : BitVec 32 := 0#32
  let c0_i32_5121 : BitVec 32 := 0#32
  let c0_i32_5122 : BitVec 32 := 0#32
  ![3, v5722.toNat, 0, 0, 0]
@[reducible] def k0_t7_loop : Scf.Loop 32 :=
  let c0_i32_5146 : BitVec 32 := 0#32
  let c4_i32_5147 : BitVec 32 := 4#32
  let v5747 : BitVec 32 := Scalar.addi c0_i32_5146 c4_i32_5147
  let c1_i32_5148 : BitVec 32 := 1#32
  ⟨c0_i32_5146, v5747, c1_i32_5148⟩
def k0_off45 (k0_t7 : Fin k0_t7_loop.trips) : Fin 5 → Nat :=
  let c0_5156 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t7
  let v5756 : BitVec 32 := Scalar.subi c3_i32_5155 arg15
  let v5757 : Index := Scalar.indexCast v5756
  let c0_5157 : Index := 0#32
  let c0_5158 : Index := 0#32
  let c0_5159 : Index := 0#32
  ![0, v5757.toNat, 0, 0, 0]
def k0_off46 (k0_t7 : Fin k0_t7_loop.trips) : Fin 5 → Nat :=
  let c0_5170 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t7
  let v5756 : BitVec 32 := Scalar.subi c3_i32_5155 arg15
  let v5772 : Index := Scalar.indexCast v5756
  let c0_5171 : Index := 0#32
  let c0_5172 : Index := 0#32
  let c0_5173 : Index := 0#32
  ![0, v5772.toNat, 0, 0, 0]
def k0_off47 (k0_t7 : Fin k0_t7_loop.trips) : Fin 5 → Nat :=
  let c0_5180 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t7
  let v5756 : BitVec 32 := Scalar.subi c3_i32_5155 arg15
  let v5782 : Index := Scalar.indexCast v5756
  let c1_5181 : Index := 1#32
  let c0_5182 : Index := 0#32
  let c0_5183 : Index := 0#32
  ![0, v5782.toNat, 1, 0, 0]
def k0_off48 (k0_t7 : Fin k0_t7_loop.trips) : Fin 5 → Nat :=
  let c0_5190 : Index := 0#32
  let c3_i32_5155 : BitVec 32 := 3#32
  let c0_i32_5146 : BitVec 32 := 0#32
  let c1_i32_5148 : BitVec 32 := 1#32
  let arg15 : BitVec 32 := Scf.iv c0_i32_5146 c1_i32_5148 k0_t7
  let v5756 : BitVec 32 := Scalar.subi c3_i32_5155 arg15
  let v5792 : Index := Scalar.indexCast v5756
  let c2_5191 : Index := 2#32
  let c0_5192 : Index := 0#32
  let c0_5193 : Index := 0#32
  ![0, v5792.toNat, 2, 0, 0]
def k0_off49 (arg13 : BitVec 32) (k0_t7 : Fin k0_t7_loop.trips) : Fin 3 → Nat :=
  let c3_5199 : Index := 3#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t7
  let v5756 : BitVec 32 := Scalar.subi c3_i32_5155 arg15
  let v5801 : BitVec 32 := Scalar.addi v5722 v5756
  let v5802 : Index := Scalar.indexCast v5801
  let c2_5200 : Index := 2#32
  ![3, v5802.toNat, 2]
def k0_off50 (arg13 : BitVec 32) (k0_t7 : Fin k0_t7_loop.trips) : Fin 3 → Nat :=
  let c3_5201 : Index := 3#32
  let c0_i32_5100 : BitVec 32 := 0#32
  let c58_i32 : BitVec 32 := 58#32
  let v5720 : BitVec 32 := Scalar.subi c58_i32 arg13
  let c4_i32 : BitVec 32 := 4#32
  let v5721 : BitVec 32 := Scalar.muli v5720 c4_i32
  let v5722 : BitVec 32 := Scalar.addi c0_i32_5100 v5721
  let c3_i32_5155 : BitVec 32 := 3#32
  let c0_i32_5146 : BitVec 32 := 0#32
  let c1_i32_5148 : BitVec 32 := 1#32
  let arg15 : BitVec 32 := Scf.iv c0_i32_5146 c1_i32_5148 k0_t7
  let v5756 : BitVec 32 := Scalar.subi c3_i32_5155 arg15
  let v5805 : BitVec 32 := Scalar.addi v5722 v5756
  let v5806 : Index := Scalar.indexCast v5805
  let c3_5202 : Index := 3#32
  ![3, v5806.toNat, 3]

def k0_chk7 (arg13 : BitVec 32) : Prop :=
  (∀ a, (k0_off43 arg13) a + S1x4x1x128x128.size a ≤ S4x256x1x128x128.size a) ∧
  (∀ a, (k0_off44 arg13) a + S1x4x3x128x128.size a ≤ S4x256x3x128x128.size a) ∧
  (∀ k0_t7 : Fin k0_t7_loop.trips, ∀ a, (k0_off49 arg13 k0_t7) a + S1x1x1.size a ≤ S4x256x8.size a) ∧
  (∀ k0_t7 : Fin k0_t7_loop.trips, ∀ a, (k0_off50 arg13 k0_t7) a + S1x1x1.size a ≤ S4x256x8.size a)
theorem k0_off43_inb : ∀ (arg13 : BitVec 32) (k0_hw7 : k0_chk7 arg13), ∀ a, (k0_off43 arg13) a + S1x4x1x128x128.size a ≤ S4x256x1x128x128.size a := fun arg13 k0_hw7 => k0_hw7.1
theorem k0_off44_inb : ∀ (arg13 : BitVec 32) (k0_hw7 : k0_chk7 arg13), ∀ a, (k0_off44 arg13) a + S1x4x3x128x128.size a ≤ S4x256x3x128x128.size a := fun arg13 k0_hw7 => k0_hw7.2.1
theorem k0_off49_inb : ∀ (arg13 : BitVec 32) (k0_hw7 : k0_chk7 arg13) (k0_t7 : Fin k0_t7_loop.trips), ∀ a, (k0_off49 arg13 k0_t7) a + S1x1x1.size a ≤ S4x256x8.size a := fun arg13 k0_hw7 k0_t7 => k0_hw7.2.2.1 k0_t7
theorem k0_off50_inb : ∀ (arg13 : BitVec 32) (k0_hw7 : k0_chk7 arg13) (k0_t7 : Fin k0_t7_loop.trips), ∀ a, (k0_off50 arg13 k0_t7) a + S1x1x1.size a ≤ S4x256x8.size a := fun arg13 k0_hw7 k0_t7 => k0_hw7.2.2.2 k0_t7

def k0_off51 (arg13 : BitVec 32) : Fin 5 → Nat :=
  let c3_i32_5101 : BitVec 32 := 3#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5109 : BitVec 32 := 0#32
  let c0_i32_5110 : BitVec 32 := 0#32
  let c0_i32_5111 : BitVec 32 := 0#32
  ![3, v5721.toNat, 0, 0, 0]

def k0_off52 (arg13 : BitVec 32) : Fin 5 → Nat :=
  let c3_i32_5112 : BitVec 32 := 3#32
  let c0_i32_5100 : BitVec 32 := 0#32
  let c4_i32 : BitVec 32 := 4#32
  let v5720 : BitVec 32 := Scalar.muli arg13 c4_i32
  let v5721 : BitVec 32 := Scalar.addi c0_i32_5100 v5720
  let c0_i32_5120 : BitVec 32 := 0#32
  let c0_i32_5121 : BitVec 32 := 0#32
  let c0_i32_5122 : BitVec 32 := 0#32
  ![3, v5721.toNat, 0, 0, 0]

def k0_chk8 (arg13 : BitVec 32) : Prop :=
  (∀ a, (k0_off51 arg13) a + S1x4x1x128x128.size a ≤ S4x256x1x128x128.size a) ∧
  (∀ a, (k0_off52 arg13) a + S1x4x3x128x128.size a ≤ S4x256x3x128x128.size a)
theorem k0_off51_inb : ∀ (arg13 : BitVec 32) (k0_hw8 : k0_chk8 arg13), ∀ a, (k0_off51 arg13) a + S1x4x1x128x128.size a ≤ S4x256x1x128x128.size a := fun arg13 k0_hw8 => k0_hw8.1
theorem k0_off52_inb : ∀ (arg13 : BitVec 32) (k0_hw8 : k0_chk8 arg13), ∀ a, (k0_off52 arg13) a + S1x4x3x128x128.size a ≤ S4x256x3x128x128.size a := fun arg13 k0_hw8 => k0_hw8.2

@[reducible] def k0_t8_loop : Scf.Loop 32 :=
  let c0_i32_5146 : BitVec 32 := 0#32
  let c4_i32_5147 : BitVec 32 := 4#32
  let v5746 : BitVec 32 := Scalar.addi c0_i32_5146 c4_i32_5147
  let c1_i32_5148 : BitVec 32 := 1#32
  ⟨c0_i32_5146, v5746, c1_i32_5148⟩
def k0_off53 (k0_t8 : Fin k0_t8_loop.trips) : Fin 5 → Nat :=
  let c0_5155 : Index := 0#32
  let c0_i32_5146 : BitVec 32 := 0#32
  let c1_i32_5148 : BitVec 32 := 1#32
  let arg15 : BitVec 32 := Scf.iv c0_i32_5146 c1_i32_5148 k0_t8
  let v5755 : Index := Scalar.indexCast arg15
  let c0_5156 : Index := 0#32
  let c0_5157 : Index := 0#32
  let c0_5158 : Index := 0#32
  ![0, v5755.toNat, 0, 0, 0]
def k0_off54 (k0_t8 : Fin k0_t8_loop.trips) : Fin 5 → Nat :=
  let c0_5170 : Index := 0#32
  let c0_i32_5146 : BitVec 32 := 0#32
  let c1_i32_5148 : BitVec 32 := 1#32
  let arg15 : BitVec 32 := Scf.iv c0_i32_5146 c1_i32_5148 k0_t8
  let v5771 : Index := Scalar.indexCast arg15
  let c0_5171 : Index := 0#32
  let c0_5172 : Index := 0#32
  let c0_5173 : Index := 0#32
  ![0, v5771.toNat, 0, 0, 0]
def k0_off55 (k0_t8 : Fin k0_t8_loop.trips) : Fin 5 → Nat :=
  let c0_5180 : Index := 0#32
  let c0_i32_5146 : BitVec 32 := 0#32
  let c1_i32_5148 : BitVec 32 := 1#32
  let arg15 : BitVec 32 := Scf.iv c0_i32_5146 c1_i32_5148 k0_t8
  let v5781 : Index := Scalar.indexCast arg15
  let c1_5181 : Index := 1#32
  let c0_5182 : Index := 0#32
  let c0_5183 : Index := 0#32
  ![0, v5781.toNat, 1, 0, 0]
def k0_off56 (k0_t8 : Fin k0_t8_loop.trips) : Fin 5 → Nat :=
  let c0_5190 : Index := 0#32
  let c0_i32_5146 : BitVec 32 := 0#32
  let c1_i32_5148 : BitVec 32 := 1#32
  let arg15 : BitVec 32 := Scf.iv c0_i32_5146 c1_i32_5148 k0_t8
  let v5791 : Index := Scalar.indexCast arg15
  let c2_5191 : Index := 2#32
  let c0_5192 : Index := 0#32
  let c0_5193 : Index := 0#32
  ![0, v5791.toNat, 2, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S4x256x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4x256x3x128x128 : Shape := ⟨5, ![4, 256, 3, 128, 128]⟩
abbrev S4x256x1x128x128 : Shape := ⟨5, ![4, 256, 1, 128, 128]⟩
abbrev S4x256x8 : Shape := ⟨3, ![4, 256, 8]⟩
abbrev S_ : Shape := ⟨0, ![]⟩
abbrev S256 : Shape := ⟨1, ![256]⟩
abbrev S1x256x1x1x1 : Shape := ⟨5, ![1, 256, 1, 1, 1]⟩
abbrev S4x256x1 : Shape := ⟨3, ![4, 256, 1]⟩
abbrev S4x256 : Shape := ⟨2, ![4, 256]⟩
abbrev S4x256x1x1x1 : Shape := ⟨5, ![4, 256, 1, 1, 1]⟩
abbrev S4x1x128x128x256 : Shape := ⟨5, ![4, 1, 128, 128, 256]⟩
abbrev S4x1x128x128x10 : Shape := ⟨5, ![4, 1, 128, 128, 10]⟩
abbrev S4x10x1x128x128 : Shape := ⟨5, ![4, 10, 1, 128, 128]⟩
abbrev S4x10x3x128x128 : Shape := ⟨5, ![4, 10, 3, 128, 128]⟩
abbrev S4x10x3x128x128x1 : Shape := ⟨6, ![4, 10, 3, 128, 128, 1]⟩
abbrev S1 : Shape := ⟨1, ![1]⟩
abbrev S1x1x1x1x1x1 : Shape := ⟨6, ![1, 1, 1, 1, 1, 1]⟩
abbrev S4x10x128x128x1 : Shape := ⟨5, ![4, 10, 128, 128, 1]⟩
abbrev S1x1x1x1x1 : Shape := ⟨5, ![1, 1, 1, 1, 1]⟩
abbrev S4x10x128x128 : Shape := ⟨4, ![4, 10, 128, 128]⟩
abbrev S4x3x128x128 : Shape := ⟨4, ![4, 3, 128, 128]⟩
abbrev S4x1x128x128 : Shape := ⟨4, ![4, 1, 128, 128]⟩
abbrev S4x1x1x128x128 : Shape := ⟨5, ![4, 1, 1, 128, 128]⟩
abbrev S4x1x3x128x128 : Shape := ⟨5, ![4, 1, 3, 128, 128]⟩

abbrev nBuf : Space → Nat
  | .hbm => 300
  | .vmem => 0
  | .smem => 0
  | _ => 0

abbrev hbmTy0_0 (i : Nat) : BufTy := match i % 128 with
  | 0 => ⟨S4x256x3x128x128, .f32⟩
  | 1 => ⟨S4x256x1x128x128, .f32⟩
  | 2 => ⟨S4x256x8, .f32⟩
  | 3 => ⟨S_, .f32⟩
  | 4 => ⟨S4x256x1x128x128, .f32⟩
  | 5 => ⟨S4x256x1x128x128, .i1⟩
  | 6 => ⟨S256, .i32⟩
  | 7 => ⟨S_, .i32⟩
  | 8 => ⟨S256, .i32⟩
  | 9 => ⟨S256, .i32⟩
  | 10 => ⟨S1x256x1x1x1, .i32⟩
  | 11 => ⟨S4x256x1x128x128, .i32⟩
  | 12 => ⟨S4x256x1x128x128, .i32⟩
  | 13 => ⟨S4x256x1x128x128, .i32⟩
  | 14 => ⟨S4x256x1, .f32⟩
  | 15 => ⟨S4x256, .f32⟩
  | 16 => ⟨S4x256x1, .f32⟩
  | 17 => ⟨S4x256, .f32⟩
  | 18 => ⟨S4x256, .f32⟩
  | 19 => ⟨S4x256x1x1x1, .f32⟩
  | 20 => ⟨S4x256x1x128x128, .f32⟩
  | 21 => ⟨S4x256x1x128x128, .f32⟩
  | 22 => ⟨S4x256x1x128x128, .f32⟩
  | 23 => ⟨S4x1x128x128x256, .i32⟩
  | 24 => ⟨S4x1x128x128x10, .i32⟩
  | 25 => ⟨S4x1x128x128x10, .i32⟩
  | 26 => ⟨S4x10x1x128x128, .i32⟩
  | 27 => ⟨S4x10x3x128x128, .i32⟩
  | 28 => ⟨S_, .i32⟩
  | 29 => ⟨S4x10x3x128x128, .i32⟩
  | 30 => ⟨S4x10x3x128x128, .i1⟩
  | 31 => ⟨S_, .i32⟩
  | 32 => ⟨S4x10x3x128x128, .i32⟩
  | 33 => ⟨S4x10x3x128x128, .i32⟩
  | 34 => ⟨S4x10x3x128x128, .i32⟩
  | 35 => ⟨S4x10x3x128x128x1, .i32⟩
  | 36 => ⟨S1, .i32⟩
  | 37 => ⟨S_, .i32⟩
  | 38 => ⟨S4x10x3x128x128x1, .i32⟩
  | 39 => ⟨S4x10x3x128x128x1, .i1⟩
  | 40 => ⟨S1x1x1x1x1x1, .i32⟩
  | 41 => ⟨S4x10x3x128x128x1, .i32⟩
  | 42 => ⟨S4x10x3x128x128x1, .i1⟩
  | 43 => ⟨S4x10x3x128x128x1, .i1⟩
  | 44 => ⟨S_, .i1⟩
  | 45 => ⟨S4x10x3x128x128, .i1⟩
  | 46 => ⟨S4x10x3x128x128, .f32⟩
  | 47 => ⟨S_, .f32⟩
  | 48 => ⟨S4x10x3x128x128, .f32⟩
  | 49 => ⟨S4x10x3x128x128, .f32⟩
  | 50 => ⟨S_, .i32⟩
  | 51 => ⟨S4x10x1x128x128, .i32⟩
  | 52 => ⟨S4x10x1x128x128, .i1⟩
  | 53 => ⟨S_, .i32⟩
  | 54 => ⟨S4x10x1x128x128, .i32⟩
  | 55 => ⟨S4x10x1x128x128, .i32⟩
  | 56 => ⟨S4x10x1x128x128, .i32⟩
  | 57 => ⟨S4x10x128x128x1, .i32⟩
  | 58 => ⟨S1, .i32⟩
  | 59 => ⟨S_, .i32⟩
  | 60 => ⟨S4x10x128x128x1, .i32⟩
  | 61 => ⟨S4x10x128x128x1, .i1⟩
  | 62 => ⟨S1x1x1x1x1, .i32⟩
  | 63 => ⟨S4x10x128x128x1, .i32⟩
  | 64 => ⟨S4x10x128x128x1, .i1⟩
  | 65 => ⟨S4x10x128x128x1, .i1⟩
  | 66 => ⟨S_, .i1⟩
  | 67 => ⟨S4x10x128x128, .i1⟩
  | 68 => ⟨S4x10x1x128x128, .f32⟩
  | 69 => ⟨S4x10x1x128x128, .i1⟩
  | 70 => ⟨S_, .f32⟩
  | 71 => ⟨S4x10x1x128x128, .f32⟩
  | 72 => ⟨S4x10x1x128x128, .f32⟩
  | 73 => ⟨S_, .i32⟩
  | 74 => ⟨S4x10x1x128x128, .i32⟩
  | 75 => ⟨S4x10x1x128x128, .i1⟩
  | 76 => ⟨S_, .i32⟩
  | 77 => ⟨S4x10x1x128x128, .i32⟩
  | 78 => ⟨S4x10x1x128x128, .i32⟩
  | 79 => ⟨S4x10x1x128x128, .i32⟩
  | 80 => ⟨S4x10x128x128x1, .i32⟩
  | 81 => ⟨S1, .i32⟩
  | 82 => ⟨S_, .i32⟩
  | 83 => ⟨S4x10x128x128x1, .i32⟩
  | 84 => ⟨S4x10x128x128x1, .i1⟩
  | 85 => ⟨S1x1x1x1x1, .i32⟩
  | 86 => ⟨S4x10x128x128x1, .i32⟩
  | 87 => ⟨S4x10x128x128x1, .i1⟩
  | 88 => ⟨S4x10x128x128x1, .i1⟩
  | 89 => ⟨S_, .i1⟩
  | 90 => ⟨S4x10x128x128, .i1⟩
  | 91 => ⟨S4x10x1x128x128, .f32⟩
  | 92 => ⟨S4x10x1x128x128, .i1⟩
  | 93 => ⟨S_, .f32⟩
  | 94 => ⟨S4x10x1x128x128, .f32⟩
  | 95 => ⟨S4x10x1x128x128, .f32⟩
  | 96 => ⟨S_, .f32⟩
  | 97 => ⟨S4x3x128x128, .f32⟩
  | 98 => ⟨S_, .f32⟩
  | 99 => ⟨S4x1x128x128, .f32⟩
  | 100 => ⟨S4x1x1x128x128, .f32⟩
  | 101 => ⟨S4x1x128x128, .f32⟩
  | 102 => ⟨S_, .f32⟩
  | 103 => ⟨S4x1x128x128, .f32⟩
  | 104 => ⟨S4x1x128x128, .f32⟩
  | 105 => ⟨S4x3x128x128, .f32⟩
  | 106 => ⟨S4x3x128x128, .f32⟩
  | 107 => ⟨S4x1x3x128x128, .f32⟩
  | 108 => ⟨S4x3x128x128, .f32⟩
  | 109 => ⟨S4x3x128x128, .f32⟩
  | 110 => ⟨S4x3x128x128, .f32⟩
  | 111 => ⟨S4x3x128x128, .f32⟩
  | 112 => ⟨S_, .f32⟩
  | 113 => ⟨S4x1x128x128, .f32⟩
  | 114 => ⟨S4x1x128x128, .f32⟩
  | 115 => ⟨S4x1x128x128, .f32⟩
  | 116 => ⟨S4x1x1x128x128, .f32⟩
  | 117 => ⟨S4x1x128x128, .f32⟩
  | 118 => ⟨S4x1x128x128, .f32⟩
  | 119 => ⟨S4x1x128x128, .f32⟩
  | 120 => ⟨S4x1x1x128x128, .f32⟩
  | 121 => ⟨S4x1x128x128, .f32⟩
  | 122 => ⟨S_, .f32⟩
  | 123 => ⟨S4x1x128x128, .f32⟩
  | 124 => ⟨S4x1x128x128, .f32⟩
  | 125 => ⟨S4x3x128x128, .f32⟩
  | 126 => ⟨S4x3x128x128, .f32⟩
  | 127 => ⟨S4x1x3x128x128, .f32⟩
  | _ => ⟨S4x256x3x128x128, .f32⟩

abbrev hbmTy0_1 (i : Nat) : BufTy := match i % 128 with
  | 0 => ⟨S4x3x128x128, .f32⟩
  | 1 => ⟨S4x3x128x128, .f32⟩
  | 2 => ⟨S4x3x128x128, .f32⟩
  | 3 => ⟨S4x3x128x128, .f32⟩
  | 4 => ⟨S_, .f32⟩
  | 5 => ⟨S4x1x128x128, .f32⟩
  | 6 => ⟨S4x1x128x128, .f32⟩
  | 7 => ⟨S4x1x128x128, .f32⟩
  | 8 => ⟨S4x1x1x128x128, .f32⟩
  | 9 => ⟨S4x1x128x128, .f32⟩
  | 10 => ⟨S4x1x128x128, .f32⟩
  | 11 => ⟨S4x1x128x128, .f32⟩
  | 12 => ⟨S4x1x1x128x128, .f32⟩
  | 13 => ⟨S4x1x128x128, .f32⟩
  | 14 => ⟨S_, .f32⟩
  | 15 => ⟨S4x1x128x128, .f32⟩
  | 16 => ⟨S4x1x128x128, .f32⟩
  | 17 => ⟨S4x3x128x128, .f32⟩
  | 18 => ⟨S4x3x128x128, .f32⟩
  | 19 => ⟨S4x1x3x128x128, .f32⟩
  | 20 => ⟨S4x3x128x128, .f32⟩
  | 21 => ⟨S4x3x128x128, .f32⟩
  | 22 => ⟨S4x3x128x128, .f32⟩
  | 23 => ⟨S4x3x128x128, .f32⟩
  | 24 => ⟨S_, .f32⟩
  | 25 => ⟨S4x1x128x128, .f32⟩
  | 26 => ⟨S4x1x128x128, .f32⟩
  | 27 => ⟨S4x1x128x128, .f32⟩
  | 28 => ⟨S4x1x1x128x128, .f32⟩
  | 29 => ⟨S4x1x128x128, .f32⟩
  | 30 => ⟨S4x1x128x128, .f32⟩
  | 31 => ⟨S4x1x128x128, .f32⟩
  | 32 => ⟨S4x1x1x128x128, .f32⟩
  | 33 => ⟨S4x1x128x128, .f32⟩
  | 34 => ⟨S_, .f32⟩
  | 35 => ⟨S4x1x128x128, .f32⟩
  | 36 => ⟨S4x1x128x128, .f32⟩
  | 37 => ⟨S4x3x128x128, .f32⟩
  | 38 => ⟨S4x3x128x128, .f32⟩
  | 39 => ⟨S4x1x3x128x128, .f32⟩
  | 40 => ⟨S4x3x128x128, .f32⟩
  | 41 => ⟨S4x3x128x128, .f32⟩
  | 42 => ⟨S4x3x128x128, .f32⟩
  | 43 => ⟨S4x3x128x128, .f32⟩
  | 44 => ⟨S_, .f32⟩
  | 45 => ⟨S4x1x128x128, .f32⟩
  | 46 => ⟨S4x1x128x128, .f32⟩
  | 47 => ⟨S4x1x128x128, .f32⟩
  | 48 => ⟨S4x1x1x128x128, .f32⟩
  | 49 => ⟨S4x1x128x128, .f32⟩
  | 50 => ⟨S4x1x128x128, .f32⟩
  | 51 => ⟨S4x1x128x128, .f32⟩
  | 52 => ⟨S4x1x1x128x128, .f32⟩
  | 53 => ⟨S4x1x128x128, .f32⟩
  | 54 => ⟨S_, .f32⟩
  | 55 => ⟨S4x1x128x128, .f32⟩
  | 56 => ⟨S4x1x128x128, .f32⟩
  | 57 => ⟨S4x3x128x128, .f32⟩
  | 58 => ⟨S4x3x128x128, .f32⟩
  | 59 => ⟨S4x1x3x128x128, .f32⟩
  | 60 => ⟨S4x3x128x128, .f32⟩
  | 61 => ⟨S4x3x128x128, .f32⟩
  | 62 => ⟨S4x3x128x128, .f32⟩
  | 63 => ⟨S4x3x128x128, .f32⟩
  | 64 => ⟨S_, .f32⟩
  | 65 => ⟨S4x1x128x128, .f32⟩
  | 66 => ⟨S4x1x128x128, .f32⟩
  | 67 => ⟨S4x1x128x128, .f32⟩
  | 68 => ⟨S4x1x1x128x128, .f32⟩
  | 69 => ⟨S4x1x128x128, .f32⟩
  | 70 => ⟨S4x1x128x128, .f32⟩
  | 71 => ⟨S4x1x128x128, .f32⟩
  | 72 => ⟨S4x1x1x128x128, .f32⟩
  | 73 => ⟨S4x1x128x128, .f32⟩
  | 74 => ⟨S_, .f32⟩
  | 75 => ⟨S4x1x128x128, .f32⟩
  | 76 => ⟨S4x1x128x128, .f32⟩
  | 77 => ⟨S4x3x128x128, .f32⟩
  | 78 => ⟨S4x3x128x128, .f32⟩
  | 79 => ⟨S4x1x3x128x128, .f32⟩
  | 80 => ⟨S4x3x128x128, .f32⟩
  | 81 => ⟨S4x3x128x128, .f32⟩
  | 82 => ⟨S4x3x128x128, .f32⟩
  | 83 => ⟨S4x3x128x128, .f32⟩
  | 84 => ⟨S_, .f32⟩
  | 85 => ⟨S4x1x128x128, .f32⟩
  | 86 => ⟨S4x1x128x128, .f32⟩
  | 87 => ⟨S4x1x128x128, .f32⟩
  | 88 => ⟨S4x1x1x128x128, .f32⟩
  | 89 => ⟨S4x1x128x128, .f32⟩
  | 90 => ⟨S4x1x128x128, .f32⟩
  | 91 => ⟨S4x1x128x128, .f32⟩
  | 92 => ⟨S4x1x1x128x128, .f32⟩
  | 93 => ⟨S4x1x128x128, .f32⟩
  | 94 => ⟨S_, .f32⟩
  | 95 => ⟨S4x1x128x128, .f32⟩
  | 96 => ⟨S4x1x128x128, .f32⟩
  | 97 => ⟨S4x3x128x128, .f32⟩
  | 98 => ⟨S4x3x128x128, .f32⟩
  | 99 => ⟨S4x1x3x128x128, .f32⟩
  | 100 => ⟨S4x3x128x128, .f32⟩
  | 101 => ⟨S4x3x128x128, .f32⟩
  | 102 => ⟨S4x3x128x128, .f32⟩
  | 103 => ⟨S4x3x128x128, .f32⟩
  | 104 => ⟨S_, .f32⟩
  | 105 => ⟨S4x1x128x128, .f32⟩
  | 106 => ⟨S4x1x128x128, .f32⟩
  | 107 => ⟨S4x1x128x128, .f32⟩
  | 108 => ⟨S4x1x1x128x128, .f32⟩
  | 109 => ⟨S4x1x128x128, .f32⟩
  | 110 => ⟨S4x1x128x128, .f32⟩
  | 111 => ⟨S4x1x128x128, .f32⟩
  | 112 => ⟨S4x1x1x128x128, .f32⟩
  | 113 => ⟨S4x1x128x128, .f32⟩
  | 114 => ⟨S_, .f32⟩
  | 115 => ⟨S4x1x128x128, .f32⟩
  | 116 => ⟨S4x1x128x128, .f32⟩
  | 117 => ⟨S4x3x128x128, .f32⟩
  | 118 => ⟨S4x3x128x128, .f32⟩
  | 119 => ⟨S4x1x3x128x128, .f32⟩
  | 120 => ⟨S4x3x128x128, .f32⟩
  | 121 => ⟨S4x3x128x128, .f32⟩
  | 122 => ⟨S4x3x128x128, .f32⟩
  | 123 => ⟨S4x3x128x128, .f32⟩
  | 124 => ⟨S_, .f32⟩
  | 125 => ⟨S4x1x128x128, .f32⟩
  | 126 => ⟨S4x1x128x128, .f32⟩
  | 127 => ⟨S4x1x128x128, .f32⟩
  | _ => ⟨S4x256x3x128x128, .f32⟩

abbrev hbmTy0_2 (i : Nat) : BufTy := match i % 128 with
  | 0 => ⟨S4x1x1x128x128, .f32⟩
  | 1 => ⟨S4x1x128x128, .f32⟩
  | 2 => ⟨S4x1x128x128, .f32⟩
  | 3 => ⟨S4x1x128x128, .f32⟩
  | 4 => ⟨S4x1x1x128x128, .f32⟩
  | 5 => ⟨S4x1x128x128, .f32⟩
  | 6 => ⟨S_, .f32⟩
  | 7 => ⟨S4x1x128x128, .f32⟩
  | 8 => ⟨S4x1x128x128, .f32⟩
  | 9 => ⟨S4x3x128x128, .f32⟩
  | 10 => ⟨S4x3x128x128, .f32⟩
  | 11 => ⟨S4x1x3x128x128, .f32⟩
  | 12 => ⟨S4x3x128x128, .f32⟩
  | 13 => ⟨S4x3x128x128, .f32⟩
  | 14 => ⟨S4x3x128x128, .f32⟩
  | 15 => ⟨S4x3x128x128, .f32⟩
  | 16 => ⟨S_, .f32⟩
  | 17 => ⟨S4x1x128x128, .f32⟩
  | 18 => ⟨S4x1x128x128, .f32⟩
  | 19 => ⟨S4x1x128x128, .f32⟩
  | 20 => ⟨S4x1x1x128x128, .f32⟩
  | 21 => ⟨S4x1x128x128, .f32⟩
  | 22 => ⟨S4x1x128x128, .f32⟩
  | 23 => ⟨S4x1x128x128, .f32⟩
  | 24 => ⟨S4x1x1x128x128, .f32⟩
  | 25 => ⟨S4x1x128x128, .f32⟩
  | 26 => ⟨S_, .f32⟩
  | 27 => ⟨S4x1x128x128, .f32⟩
  | 28 => ⟨S4x1x128x128, .f32⟩
  | 29 => ⟨S4x3x128x128, .f32⟩
  | 30 => ⟨S4x3x128x128, .f32⟩
  | 31 => ⟨S4x1x3x128x128, .f32⟩
  | 32 => ⟨S4x3x128x128, .f32⟩
  | 33 => ⟨S4x3x128x128, .f32⟩
  | 34 => ⟨S4x3x128x128, .f32⟩
  | 35 => ⟨S4x3x128x128, .f32⟩
  | 36 => ⟨S_, .f32⟩
  | 37 => ⟨S4x1x128x128, .f32⟩
  | 38 => ⟨S4x1x128x128, .f32⟩
  | 39 => ⟨S4x1x128x128, .f32⟩
  | 40 => ⟨S4x1x1x128x128, .f32⟩
  | 41 => ⟨S4x1x128x128, .f32⟩
  | 42 => ⟨S4x1x128x128, .f32⟩
  | 43 => ⟨S4x1x128x128, .f32⟩
  | _ => ⟨S4x256x3x128x128, .f32⟩

abbrev hbmTy (i : Nat) : BufTy := match i / 128 with
  | 0 => hbmTy0_0 i
  | 1 => hbmTy0_1 i
  | 2 => hbmTy0_2 i
  | _ => ⟨S4x256x3x128x128, .f32⟩

abbrev bufTy : (tb : Table) → Fin (tcTables nBuf tb) → BufTy
  | .hbm, ⟨i, _⟩ => hbmTy i
  | _, _ => ⟨S4x256x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_values : Ref sig .tc := ⟨.hbm, 24, rfl⟩
abbrev main_indices : Ref sig .tc := ⟨.hbm, 25, rfl⟩
abbrev main_v19 : Ref sig .tc := ⟨.hbm, 26, rfl⟩
abbrev main_v20 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_cst : Ref sig .tc := ⟨.hbm, 47, rfl⟩
abbrev main_call0_v14 : Ref sig .tc := ⟨.hbm, 48, rfl⟩
abbrev main_v21 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v22 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v23 : Ref sig .tc := ⟨.hbm, 95, rfl⟩
abbrev main_cst_0 : Ref sig .tc := ⟨.hbm, 96, rfl⟩
abbrev main_v24 : Ref sig .tc := ⟨.hbm, 97, rfl⟩
abbrev main_cst_1 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_cst_2 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_cst_3 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_cst_4 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_cst_5 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_cst_6 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_cst_7 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_cst_8 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_cst_9 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_cst_10 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_cst_11 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_12 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_cst_13 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_cst_14 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_cst_15 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_16 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_17 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_cst_18 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_19 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_cst_20 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_cst_21 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩

abbrev nD : Nat := 1
abbrev τ : Topo := Topo.v7x

variable {F : FTy → Type} [FloatOps F]
-- ==== Proof.Template.lean ====
/-
  The composite kernel's body as a structured program: one blending step, the twenty steps of a half, the two
  halves of a batch, the two refill passes, and the four batches with their transfers.
-/
module

public import proofs.«01_k».proof.Kernel
public import proofs.«01_k».proof.Proof.Gen.Kernel
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F] {Λ : Labels}

/-! ## The buffers -/

/-- The stroke parameters, staged. -/
abbrev mP : Memref sig .tc .vmem S4x256x8 .f32 := Memref.whole cc0_stg0_0
/-- The alpha operand. -/
abbrev mA : Memref sig .tc .hbm S4x256x1x128x128 .f32 := Memref.whole main_arg1
/-- The colour operand. -/
abbrev mC : Memref sig .tc .hbm S4x256x3x128x128 .f32 := Memref.whole main_arg0
/-- The canvas, staged. -/
abbrev mO : Memref sig .tc .vmem S4x3x128x128 .f32 := Memref.whole cc0_stg1_0
/-- The density map, staged. -/
abbrev mN : Memref sig .tc .vmem S4x1x128x128 .f32 := Memref.whole cc0_stg2_0
/-- The ring of alpha chunks. -/
abbrev bA : Memref sig .tc .vmem S3x20x1x128x128 .f32 := Memref.whole cc0_scratch0
/-- The ring of colour chunks. -/
abbrev bC : Memref sig .tc .vmem S3x20x3x128x128 .f32 := Memref.whole cc0_scratch1
/-- The transmittance. -/
abbrev bT : Memref sig .tc .vmem S128x128 .f32 := Memref.whole cc0_scratch2
/-- The colour accumulator. -/
abbrev bX : Memref sig .tc .vmem S3x128x128 .f32 := Memref.whole cc0_scratch3
/-- The density accumulator. -/
abbrev bD : Memref sig .tc .vmem S128x128 .f32 := Memref.whole cc0_scratch4
/-- The number of strokes taken. -/
abbrev bN : Memref sig .tc .vmem S128x128 .i32 := Memref.whole cc0_scratch5

/-! ## Pure steps -/

/-- What a blending pass carries over a tile: transmittance, strokes taken, three colours, density. -/
structure St (F : FTy → Type) (s : Shape) where
  T : FVec F s .f32
  N : IVec s 32
  X0 : FVec F s .f32
  X1 : FVec F s .f32
  X2 : FVec F s .f32
  D : FVec F s .f32

/-- The strokes taken at a step: visible, with fewer than ten taken so far. -/
abbrev takeV {s : Shape} (N : IVec s 32) (a : FVec F s .f32) : IVec s 1 :=
  andi (cmpf .ogt a (broadcast s (Scalar.ofBits .f32 0x3DCCCCCD#32))) (cmpi .slt N (broadcast s 10#32))
/-- The strokes taken at a tie-filling step: invisible, with fewer than ten taken so far. -/
abbrev takeI {s : Shape} (N : IVec s 32) (a : FVec F s .f32) : IVec s 1 :=
  andi (xori (cmpf .ogt a (broadcast s (Scalar.ofBits .f32 0x3DCCCCCD#32))) (constantI s 1 1#1)) (cmpi .slt N (broadcast s 10#32))
/-- A step's weight. -/
abbrev wgt {s : Shape} (t : IVec s 1) (T a : FVec F s .f32) : FVec F s .f32 :=
  select t (mulf T a) (broadcast s (Scalar.ofBits .f32 0x00000000#32))

/-! ## Bounds -/

theorem inbA (sl : Fin 3) (n : Fin 20) (r : Fin 2) : ∀ a, (![sl.val, n.val, 0, 64 * r.val, 0] : Fin 5 → Nat) a + S1x1x1x64x128.size a ≤ S3x20x1x128x128.size a := by
  intro a; have := sl.2; have := n.2; have := r.2
  fin_cases a <;> simp <;> omega
theorem inbC (sl : Fin 3) (n : Fin 20) (k : Fin 3) (r : Fin 2) : ∀ a, (![sl.val, n.val, k.val, 64 * r.val, 0] : Fin 5 → Nat) a + S1x1x1x64x128.size a ≤ S3x20x3x128x128.size a := by
  intro a; have := sl.2; have := n.2; have := r.2; have := k.2
  fin_cases a <;> simp <;> omega
theorem inbP (b : Fin 4) (n : Fin 256) (k : Fin 8) : ∀ a, (![b.val, n.val, k.val] : Fin 3 → Nat) a + S1x1x1.size a ≤ S4x256x8.size a := by
  intro a; have := b.2; have := n.2; have := k.2
  fin_cases a <;> simp <;> omega
theorem inbH (r : Fin 2) : ∀ a, (![64 * r.val, 0] : Fin 2 → Nat) a + S64x128.size a ≤ S128x128.size a := by
  intro a; have := r.2
  fin_cases a <;> simp <;> omega
theorem inbX (k : Fin 3) (r : Fin 2) : ∀ a, (![k.val, 64 * r.val, 0] : Fin 3 → Nat) a + S1x64x128.size a ≤ S3x128x128.size a := by
  intro a; have := r.2; have := k.2
  fin_cases a <;> simp <;> omega

abbrev K0 (Λ : Labels) (F : FTy → Type) [FloatOps F] := Prog (TpuEff nD τ sig (Elt F) Λ .tc)

/-- The alpha rows a step reads. -/
def ldA (sl : Fin 3) (n : Fin 20) (r : Fin 2) : K0 Λ F (FVec F S64x128 .f32) := do
  let v ← Prog.lift (.load bA (Rect.unit (s := S3x20x1x128x128) ![sl.val, n.val, 0, 64 * r.val, 0] S1x1x1x64x128.size (inbA sl n r)).toLoadRect (View.loadsAt_vmem h_S1x1x1x64x128))
  pure (shapeCast S64x128 v shapeCasts_S1x1x1x64x128_S64x128)
/-- The colour rows a step reads. -/
def ldC (sl : Fin 3) (n : Fin 20) (k : Fin 3) (r : Fin 2) : K0 Λ F (FVec F S64x128 .f32) := do
  let v ← Prog.lift (.load bC (Rect.unit (s := S3x20x3x128x128) ![sl.val, n.val, k.val, 64 * r.val, 0] S1x1x1x64x128.size (inbC sl n k r)).toLoadRect (View.loadsAt_vmem h_S1x1x1x64x128))
  pure (shapeCast S64x128 v shapeCasts_S1x1x1x64x128_S64x128)
/-- One stroke parameter. -/
def ldP (b : Fin 4) (n : Fin 256) (k : Fin 8) : K0 Λ F (F .f32) := do
  let v ← Prog.lift (.load mP (Rect.unit (s := S4x256x8) ![b.val, n.val, k.val] S1x1x1.size (inbP b n k)).toLoadRect (View.loadsAt_vmem h_S1x1x1))
  pure (extractAt ![0, 0, 0] v inpos_S1x1x1_p0_0_0)

/-! ## The fast pass -/

/-- One step of the fast pass over a tile, its inputs given. -/
def St.step {s : Shape} (st : St F s) (a c0 c1 c2 : FVec F s .f32) (p : F .f32) : St F s :=
  let t := takeV st.N a
  let w := wgt t st.T a
  { T := subf st.T w, N := addi st.N (extui 32 t natLt_1_32)
    X0 := addf st.X0 (mulf w c0), X1 := addf st.X1 (mulf w c1), X2 := addf st.X2 (mulf w c2)
    D := addf st.D (mulf w (broadcast s p)) }

/-- What a pass starts from. -/
def St.init (F : FTy → Type) [FloatOps F] (s : Shape) : St F s :=
  { T := broadcast s (Scalar.ofBits .f32 0x3F800000#32), N := broadcast s 0#32
    X0 := broadcast s (Scalar.ofBits .f32 0x00000000#32), X1 := broadcast s (Scalar.ofBits .f32 0x00000000#32)
    X2 := broadcast s (Scalar.ofBits .f32 0x00000000#32), D := broadcast s (Scalar.ofBits .f32 0x00000000#32) }

/-- Stroke `236 + n`, the one held in place `n` of a chunk. -/
def strokeOf (n : Fin 20) : Fin 256 := ⟨236 + n.val, by have := n.2; omega⟩

/-- One step of the fast pass. -/
def fastStep (b : Fin 4) (sl : Fin 3) (r : Fin 2) (n : Fin 20) (st : St F S64x128) : K0 Λ F (St F S64x128) := do
  let a ← ldA sl n r
  let c0 ← ldC sl n 0 r
  let c1 ← ldC sl n 1 r
  let c2 ← ldC sl n 2 r
  let p2 ← ldP b (strokeOf n) 2
  let p3 ← ldP b (strokeOf n) 3
  pure (st.step a c0 c1 c2 (Scalar.mulf p2 p3))

/-- Steps `n - 1, …, 0` of the fast pass. -/
def fastSteps (b : Fin 4) (sl : Fin 3) (r : Fin 2) : (n : ℕ) → n ≤ 20 → St F S64x128 → K0 Λ F (St F S64x128)
  | 0, _, st => pure st
  | n + 1, h, st => do
    let st ← fastStep b sl r ⟨n, h⟩ st
    fastSteps b sl r n (Nat.le_of_succ_le h) st

/-- A half's value stored into a plane of 128 rows. -/
def stH {e : EltTy} (he : EltTy.bits e = 32) (m : Memref sig .tc .vmem S128x128 e) (r : Fin 2) (v : Vec F S64x128 e) : K0 Λ F PUnit := do
  let _ ← Prog.lift (.load m (Rect.unit (s := S128x128) ![64 * r.val, 0] S64x128.size (inbH r)).toLoadRect (View.loadsAt_vmem h_S64x128))
  Prog.lift (.store m (Rect.unit (s := S128x128) ![64 * r.val, 0] S64x128.size (inbH r)) (shapeCast S64x128 v shapeCasts_S64x128_S64x128) Finset.univ (View.stores_vmem_bits_univ h_S64x128 he) (.inl rfl))
/-- A half's value stored into a colour plane. -/
def stX (k : Fin 3) (r : Fin 2) (v : FVec F S64x128 .f32) : K0 Λ F PUnit := do
  let _ ← Prog.lift (.load bX (Rect.unit (s := S3x128x128) ![k.val, 64 * r.val, 0] S1x64x128.size (inbX k r)).toLoadRect (View.loadsAt_vmem h_S1x64x128))
  Prog.lift (.store bX (Rect.unit (s := S3x128x128) ![k.val, 64 * r.val, 0] S1x64x128.size (inbX k r)) (shapeCast S1x64x128 v shapeCasts_S64x128_S1x64x128) Finset.univ (View.stores_vmem_bits_univ h_S1x64x128 rfl) (.inl rfl))

/-- A half of a batch: twenty steps, then its tile stored; the counts are returned. -/
def half (b : Fin 4) (sl : Fin 3) (r : Fin 2) : K0 Λ F (IVec S64x128 32) := do
  let st ← fastSteps b sl r 20 le_rfl (St.init F S64x128)
  stH rfl bT r st.T
  stH rfl bN r st.N
  stX 0 r st.X0
  stX 1 r st.X1
  stX 2 r st.X2
  stH rfl bD r st.D
  pure st.N

/-! ## Transfers -/

theorem inbSem (sl : Fin 3) (j : Fin 2) : ∀ a, (![sl.val, j.val] : Fin 2 → Nat) a + S1x1.size a ≤ S3x2.size a := by
  intro a; have := sl.2; have := j.2
  fin_cases a <;> simp <;> omega
theorem inbA20 (sl : Fin 3) : ∀ a, (![sl.val, 0, 0, 0, 0] : Fin 5 → Nat) a + S1x20x1x128x128.size a ≤ S3x20x1x128x128.size a := by
  intro a; have := sl.2
  fin_cases a <;> simp <;> omega
theorem inbC20 (sl : Fin 3) : ∀ a, (![sl.val, 0, 0, 0, 0] : Fin 5 → Nat) a + S1x20x3x128x128.size a ≤ S3x20x3x128x128.size a := by
  intro a; have := sl.2
  fin_cases a <;> simp <;> omega
theorem inbA4 (sl : Fin 3) : ∀ a, (![sl.val, 0, 0, 0, 0] : Fin 5 → Nat) a + S1x4x1x128x128.size a ≤ S3x20x1x128x128.size a := by
  intro a; have := sl.2
  fin_cases a <;> simp <;> omega
theorem inbC4 (sl : Fin 3) : ∀ a, (![sl.val, 0, 0, 0, 0] : Fin 5 → Nat) a + S1x4x3x128x128.size a ≤ S3x20x3x128x128.size a := by
  intro a; have := sl.2
  fin_cases a <;> simp <;> omega
theorem inbHA (b : Fin 4) : ∀ a, (![b.val, 236, 0, 0, 0] : Fin 5 → Nat) a + S1x20x1x128x128.size a ≤ S4x256x1x128x128.size a := by
  intro a; have := b.2
  fin_cases a <;> simp <;> omega
theorem inbHC (b : Fin 4) : ∀ a, (![b.val, 236, 0, 0, 0] : Fin 5 → Nat) a + S1x20x3x128x128.size a ≤ S4x256x3x128x128.size a := by
  intro a; have := b.2
  fin_cases a <;> simp <;> omega

/-- The transfer cell of slot `sl`: alpha's (`j = 0`) or colour's (`j = 1`). -/
def semOf (sl : Fin 3) (j : Fin 2) : DmaSem sig :=
  ((cc0_scratch6.slice (Rect.unit (s := S3x2) ![sl.val, j.val] S1x1.size (inbSem sl j))).squeeze S_ squeezes_S1x1_S_).sem

/-- A slot's twenty alpha planes. -/
def dA20 (sl : Fin 3) : Memref sig .tc .vmem S20x1x128x128 .f32 :=
  (bA.slice (Rect.unit (s := S3x20x1x128x128) ![sl.val, 0, 0, 0, 0] S1x20x1x128x128.size (inbA20 sl)) (fun _ => rfl)).squeeze S20x1x128x128 squeezes_S1x20x1x128x128_S20x1x128x128
/-- A slot's twenty colour planes. -/
def dC20 (sl : Fin 3) : Memref sig .tc .vmem S20x3x128x128 .f32 :=
  (bC.slice (Rect.unit (s := S3x20x3x128x128) ![sl.val, 0, 0, 0, 0] S1x20x3x128x128.size (inbC20 sl)) (fun _ => rfl)).squeeze S20x3x128x128 squeezes_S1x20x3x128x128_S20x3x128x128
/-- A batch's last twenty alpha planes. -/
def sA20 (b : Fin 4) : Memref sig .tc .hbm S20x1x128x128 .f32 :=
  (mA.slice (Rect.unit (s := S4x256x1x128x128) ![b.val, 236, 0, 0, 0] S1x20x1x128x128.size (inbHA b)) (fun _ => rfl)).squeeze S20x1x128x128 squeezes_S1x20x1x128x128_S20x1x128x128
/-- A batch's last twenty colour planes. -/
def sC20 (b : Fin 4) : Memref sig .tc .hbm S20x3x128x128 .f32 :=
  (mC.slice (Rect.unit (s := S4x256x3x128x128) ![b.val, 236, 0, 0, 0] S1x20x3x128x128.size (inbHC b)) (fun _ => rfl)).squeeze S20x3x128x128 squeezes_S1x20x3x128x128_S20x3x128x128
/-- A slot's first four alpha planes. -/
def dA4 (sl : Fin 3) : Memref sig .tc .vmem S4x1x128x128 .f32 :=
  (bA.slice (Rect.unit (s := S3x20x1x128x128) ![sl.val, 0, 0, 0, 0] S1x4x1x128x128.size (inbA4 sl)) (fun _ => rfl)).squeeze S4x1x128x128 squeezes_S1x4x1x128x128_S4x1x128x128
/-- A slot's first four colour planes. -/
def dC4 (sl : Fin 3) : Memref sig .tc .vmem S4x3x128x128 .f32 :=
  (bC.slice (Rect.unit (s := S3x20x3x128x128) ![sl.val, 0, 0, 0, 0] S1x4x3x128x128.size (inbC4 sl)) (fun _ => rfl)).squeeze S4x3x128x128 squeezes_S1x4x3x128x128_S4x3x128x128
/-- Four alpha planes of the operand. -/
def sA4 (off : Fin 5 → ℕ) (h : ∀ a, off a + S1x4x1x128x128.size a ≤ S4x256x1x128x128.size a) : Memref sig .tc .hbm S4x1x128x128 .f32 :=
  (mA.slice (Rect.unit (s := S4x256x1x128x128) off S1x4x1x128x128.size h) (fun _ => rfl)).squeeze S4x1x128x128 squeezes_S1x4x1x128x128_S4x1x128x128
/-- Four colour planes of the operand. -/
def sC4 (off : Fin 5 → ℕ) (h : ∀ a, off a + S1x4x3x128x128.size a ≤ S4x256x3x128x128.size a) : Memref sig .tc .hbm S4x3x128x128 .f32 :=
  (mC.slice (Rect.unit (s := S4x256x3x128x128) off S1x4x3x128x128.size h) (fun _ => rfl)).squeeze S4x3x128x128 squeezes_S1x4x3x128x128_S4x3x128x128

/-- Start the transfers of batch `b`'s last twenty strokes into slot `sl`. -/
def startFast (b : Fin 4) (sl : Fin 3) : K0 Λ F PUnit := do
  Prog.lift (.enqueueDma (sA20 b) (.here (dA20 sl)) (.dma (semOf sl 0)) ((View.wordExact_bits rfl).reshape _ _) ((View.wordExact_bits rfl).reshape _ _) ⟨Or.inl rfl, trivial⟩)
  Prog.lift (.enqueueDma (sC20 b) (.here (dC20 sl)) (.dma (semOf sl 1)) ((View.wordExact_bits rfl).reshape _ _) ((View.wordExact_bits rfl).reshape _ _) ⟨Or.inl rfl, trivial⟩)
/-- Wait for them. -/
def waitFast (b : Fin 4) (sl : Fin 3) : K0 Λ F PUnit := do
  Prog.lift (.waitDma2 (semOf sl 0) (sA20 b) (dA20 sl) ((View.wordExact_bits rfl).reshape _ _) ((View.wordExact_bits rfl).reshape _ _))
  Prog.lift (.waitDma2 (semOf sl 1) (sC20 b) (dC20 sl) ((View.wordExact_bits rfl).reshape _ _) ((View.wordExact_bits rfl).reshape _ _))

/-- Copy four strokes of the operands into slot `sl`. -/
def chunk4 (sl : Fin 3) (o : Fin 5 → ℕ) (hA : ∀ a, o a + S1x4x1x128x128.size a ≤ S4x256x1x128x128.size a)
    (hC : ∀ a, o a + S1x4x3x128x128.size a ≤ S4x256x3x128x128.size a) : K0 Λ F PUnit := do
  Prog.lift (.enqueueDma (sA4 o hA) (.here (dA4 sl)) (.dma (semOf sl 0)) ((View.wordExact_bits rfl).reshape _ _) ((View.wordExact_bits rfl).reshape _ _) ⟨Or.inl rfl, trivial⟩)
  Prog.lift (.enqueueDma (sC4 o hC) (.here (dC4 sl)) (.dma (semOf sl 1)) ((View.wordExact_bits rfl).reshape _ _) ((View.wordExact_bits rfl).reshape _ _) ⟨Or.inl rfl, trivial⟩)
  Prog.lift (.waitDma2 (semOf sl 0) (sA4 o hA) (dA4 sl) ((View.wordExact_bits rfl).reshape _ _) ((View.wordExact_bits rfl).reshape _ _))
  Prog.lift (.waitDma2 (semOf sl 1) (sC4 o hC) (dC4 sl) ((View.wordExact_bits rfl).reshape _ _) ((View.wordExact_bits rfl).reshape _ _))

/-! ## The refill passes -/

/-- The smallest count of a plane has reached ten. -/
abbrev doneOf (N : IVec S128x128 32) : BitVec 1 :=
  Scalar.cmpi .sge (extractAt ![0, 0, 0] (shapeCast S1x1x1 (multiReductionI .minsi [1, 2] S1 (shapeCast S1x128x128 N shapeCasts_S128x128_S1x128x128) 2147483647#32 reduces_S1x128x128_S1 rfl) shapeCasts_S1_S1x1x1) inpos_S1x1x1_p0_0_0) 10#32
/-- The smallest count of a pair of halves has reached ten. -/
abbrev doneOf2 (N0 N1 : IVec S64x128 32) : BitVec 1 :=
  Scalar.cmpi .sge (extractAt ![0, 0, 0] (shapeCast S1x1x1 (multiReductionI .minsi [1, 2] S1 (shapeCast S1x64x128 (minsi N0 N1) shapeCasts_S64x128_S1x64x128) 2147483647#32 reduces_S1x64x128_S1 rfl) shapeCasts_S1_S1x1x1) inpos_S1x1x1_p0_0_0) 10#32

/-- A whole plane read. -/
abbrev ldW {e : EltTy} (m : Memref sig .tc .vmem S128x128 e) : K0 Λ F (Vec F S128x128 e) :=
  Prog.lift (.load m (Rect.unit (s := S128x128) ![0, 0] S128x128.size inb_S128x128_S128x128_0_0).toLoadRect (View.loadsAt_vmem h_S128x128))
/-- A whole plane written. -/
def stW {e : EltTy} (he : EltTy.bits e = 32) (m : Memref sig .tc .vmem S128x128 e) (v : Vec F S128x128 e) : K0 Λ F PUnit := do
  let _ ← ldW m
  Prog.lift (.store m (Rect.unit (s := S128x128) ![0, 0] S128x128.size inb_S128x128_S128x128_0_0) (shapeCast S128x128 v shapeCasts_S128x128_S128x128) Finset.univ (View.stores_vmem_bits_univ h_S128x128 he) (.inl rfl))
theorem inbXW (k : Fin 3) : ∀ a, (![k.val, 0, 0] : Fin 3 → Nat) a + S1x128x128.size a ≤ S3x128x128.size a := by
  intro a; have := k.2
  fin_cases a <;> simp <;> omega
/-- A colour plane read. -/
def ldX (k : Fin 3) : K0 Λ F (FVec F S128x128 .f32) := do
  let v ← Prog.lift (.load bX (Rect.unit (s := S3x128x128) ![k.val, 0, 0] S1x128x128.size (inbXW k)).toLoadRect (View.loadsAt_vmem h_S1x128x128))
  pure (shapeCast S128x128 v shapeCasts_S1x128x128_S128x128)
/-- A colour plane written. -/
def stXW (k : Fin 3) (v : FVec F S128x128 .f32) : K0 Λ F PUnit := do
  let _ ← ldX k
  Prog.lift (.store bX (Rect.unit (s := S3x128x128) ![k.val, 0, 0] S1x128x128.size (inbXW k)) (shapeCast S1x128x128 v shapeCasts_S128x128_S1x128x128) Finset.univ (View.stores_vmem_bits_univ h_S1x128x128 rfl) (.inl rfl))
theorem inbAW (sl : Fin 3) (q : Fin 4) : ∀ a, (![sl.val, q.val, 0, 0, 0] : Fin 5 → Nat) a + S1x1x1x128x128.size a ≤ S3x20x1x128x128.size a := by
  intro a; have := sl.2; have := q.2
  fin_cases a <;> simp <;> omega
theorem inbCW (sl : Fin 3) (q : Fin 4) (k : Fin 3) : ∀ a, (![sl.val, q.val, k.val, 0, 0] : Fin 5 → Nat) a + S1x1x1x128x128.size a ≤ S3x20x3x128x128.size a := by
  intro a; have := sl.2; have := q.2; have := k.2
  fin_cases a <;> simp <;> omega
/-- An alpha plane of a slot read. -/
def ldAW (sl : Fin 3) (q : Fin 4) : K0 Λ F (FVec F S128x128 .f32) := do
  let v ← Prog.lift (.load bA (Rect.unit (s := S3x20x1x128x128) ![sl.val, q.val, 0, 0, 0] S1x1x1x128x128.size (inbAW sl q)).toLoadRect (View.loadsAt_vmem h_S1x1x1x128x128))
  pure (shapeCast S128x128 v shapeCasts_S1x1x1x128x128_S128x128)
/-- A colour plane of a slot read. -/
def ldCW (sl : Fin 3) (q : Fin 4) (k : Fin 3) : K0 Λ F (FVec F S128x128 .f32) := do
  let v ← Prog.lift (.load bC (Rect.unit (s := S3x20x3x128x128) ![sl.val, q.val, k.val, 0, 0] S1x1x1x128x128.size (inbCW sl q k)).toLoadRect (View.loadsAt_vmem h_S1x1x1x128x128))
  pure (shapeCast S128x128 v shapeCasts_S1x1x1x128x128_S128x128)

/-- One trip of a refill: the plane `q` of slot `sl` blended where `take` says, `dens` adding to the density. -/
def trip (sl : Fin 3) (q : Fin 4) (take : IVec S128x128 32 → FVec F S128x128 .f32 → IVec S128x128 1)
    (dens : FVec F S128x128 .f32 → K0 Λ F PUnit) : K0 Λ F (BitVec 32) := do
  let a ← ldAW sl q
  let N ← ldW bN
  let T ← ldW bT
  let x0 ← ldX 0
  let c0 ← ldCW sl q 0
  stXW 0 (addf x0 (mulf (wgt (take N a) T a) c0))
  let x1 ← ldX 1
  let c1 ← ldCW sl q 1
  stXW 1 (addf x1 (mulf (wgt (take N a) T a) c1))
  let x2 ← ldX 2
  let c2 ← ldCW sl q 2
  stXW 2 (addf x2 (mulf (wgt (take N a) T a) c2))
  dens (wgt (take N a) T a)
  stW rfl bT (subf T (wgt (take N a) T a))
  stW rfl bN (addi N (extui 32 (take N a) natLt_1_32))
  pure 0#32

/-- A visible stroke's density. -/
def densP (o2 o3 : Fin 3 → ℕ) (h2 : ∀ a, o2 a + S1x1x1.size a ≤ S4x256x8.size a) (h3 : ∀ a, o3 a + S1x1x1.size a ≤ S4x256x8.size a)
    (w : FVec F S128x128 .f32) : K0 Λ F PUnit := do
  let d ← ldW bD
  let p2 ← Prog.lift (.load mP (Rect.unit (s := S4x256x8) o2 S1x1x1.size h2).toLoadRect (View.loadsAt_vmem h_S1x1x1))
  let p3 ← Prog.lift (.load mP (Rect.unit (s := S4x256x8) o3 S1x1x1.size h3).toLoadRect (View.loadsAt_vmem h_S1x1x1))
  stW rfl bD (addf d (mulf w (broadcast S128x128 (Scalar.mulf (extractAt ![0, 0, 0] p2 inpos_S1x1x1_p0_0_0) (extractAt ![0, 0, 0] p3 inpos_S1x1x1_p0_0_0)))))

/-- A trip's place in the chunk, counted down. -/
def qDown (t : Fin k0_t1_loop.trips) : Fin 4 := ⟨(Scalar.indexCast (Scalar.subi 3#32 (Scf.iv 0#32 1#32 t))).toNat, by revert t; decide⟩
/-- A trip's place in the chunk, counted up. -/
def qUp (t : Fin k0_t1_loop.trips) : Fin 4 := ⟨(Scalar.indexCast (Scf.iv 0#32 1#32 t)).toNat, by revert t; decide⟩
/-- A slow chunk's first stroke. -/
abbrev firstDown (i : BitVec 32) : BitVec 32 := Scalar.addi 0#32 (Scalar.muli (Scalar.subi 58#32 i) 4#32)
/-- A tie-filling chunk's first stroke. -/
abbrev firstUp (i : BitVec 32) : BitVec 32 := Scalar.addi 0#32 (Scalar.muli i 4#32)
/-- Where chunk `w` of batch `b` starts. -/
abbrev offB (b : Fin 4) (w : BitVec 32) : Fin 5 → ℕ := ![b.val, w.toNat, 0, 0, 0]
/-- Where parameter `k` of a slow trip's stroke lies. -/
abbrev offP (b : Fin 4) (i : BitVec 32) (k : Fin 8) (t : Fin k0_t1_loop.trips) : Fin 3 → ℕ :=
  ![b.val, (Scalar.indexCast (Scalar.addi (firstDown i) (Scalar.subi 3#32 (Scf.iv 0#32 1#32 t)))).toNat, k.val]
/-- What a slow chunk's addresses need. -/
def chkS (b : Fin 4) (i : BitVec 32) : Prop :=
  (∀ a, offB b (firstDown i) a + S1x4x1x128x128.size a ≤ S4x256x1x128x128.size a) ∧
  (∀ a, offB b (firstDown i) a + S1x4x3x128x128.size a ≤ S4x256x3x128x128.size a) ∧
  (∀ t : Fin k0_t1_loop.trips, ∀ a, offP b i 2 t a + S1x1x1.size a ≤ S4x256x8.size a) ∧
  (∀ t : Fin k0_t1_loop.trips, ∀ a, offP b i 3 t a + S1x1x1.size a ≤ S4x256x8.size a)
/-- What a tie-filling chunk's addresses need. -/
def chkF (b : Fin 4) (i : BitVec 32) : Prop :=
  (∀ a, offB b (firstUp i) a + S1x4x1x128x128.size a ≤ S4x256x1x128x128.size a) ∧
  (∀ a, offB b (firstUp i) a + S1x4x3x128x128.size a ≤ S4x256x3x128x128.size a)

/-- The slow pass: from the state `(i, d)`, chunk `i` and the rest by `again`, or the end. -/
def slowBody (b : Fin 4) (sl : Fin 3) (chk : BitVec 32 → Prop) (dec : ∀ i, Decidable (chk i)) (hc : ∀ i, chk i → chkS b i)
    (again : BitVec 32 → BitVec 1 → K0 Λ F (BitVec 32 × BitVec 1)) (i : BitVec 32) (d : BitVec 1) : K0 Λ F (BitVec 32 × BitVec 1) :=
  if Scalar.andi (Scalar.xori d 1#1) (Scalar.cmpi .slt i 59#32) = 1#1 then do
    have h : chk i := (← Prog.lift (TpuEff.assume (chk i) (dec i))).down
    chunk4 sl (offB b (firstDown i)) (hc i h).1 (hc i h).2.1
    let _ ← Scf.Loop.for k0_t1_loop k0_t1_ok 0#32 fun t _ =>
      trip sl (qDown t) takeV (densP (offP b i 2 t) (offP b i 3 t) ((hc i h).2.2.1 t) ((hc i h).2.2.2 t))
    let N ← ldW bN
    again (Scalar.addi i 1#32) (doneOf N)
  else pure (i, d)

/-- The tie-filling pass. -/
def fillBody (b : Fin 4) (sl : Fin 3) (chk : BitVec 32 → Prop) (dec : ∀ i, Decidable (chk i)) (hc : ∀ i, chk i → chkF b i)
    (again : BitVec 32 → BitVec 1 → K0 Λ F (BitVec 32 × BitVec 1)) (i : BitVec 32) (d : BitVec 1) : K0 Λ F (BitVec 32 × BitVec 1) :=
  if Scalar.andi (Scalar.xori d 1#1) (Scalar.cmpi .slt i 64#32) = 1#1 then do
    have h : chk i := (← Prog.lift (TpuEff.assume (chk i) (dec i))).down
    chunk4 sl (offB b (firstUp i)) (hc i h).1 (hc i h).2
    let _ ← Scf.Loop.for k0_t1_loop k0_t1_ok 0#32 fun t _ => trip sl (qUp t) takeI fun _ => pure ⟨⟩
    let N ← ldW bN
    again (Scalar.addi i 1#32) (doneOf N)
  else pure (i, d)

/-! ## A batch, and the body -/

theorem inbO (b : Fin 4) (k : Fin 3) : ∀ a, (![b.val, k.val, 0, 0] : Fin 4 → Nat) a + S1x1x128x128.size a ≤ S4x3x128x128.size a := by
  intro a; have := b.2; have := k.2
  fin_cases a <;> simp <;> omega
theorem inbN (b : Fin 4) : ∀ a, (![b.val, 0, 0, 0] : Fin 4 → Nat) a + S1x1x128x128.size a ≤ S4x1x128x128.size a := by
  intro a; have := b.2
  fin_cases a <;> simp <;> omega
/-- A canvas plane written. -/
def stO (b : Fin 4) (k : Fin 3) (v : FVec F S128x128 .f32) : K0 Λ F PUnit := do
  let _ ← Prog.lift (.load mO (Rect.unit (s := S4x3x128x128) ![b.val, k.val, 0, 0] S1x1x128x128.size (inbO b k)).toLoadRect (View.loadsAt_vmem h_S1x1x128x128))
  Prog.lift (.store mO (Rect.unit (s := S4x3x128x128) ![b.val, k.val, 0, 0] S1x1x128x128.size (inbO b k)) (shapeCast S1x1x128x128 v shapeCasts_S128x128_S1x1x128x128) Finset.univ (View.stores_vmem_bits_univ h_S1x1x128x128 rfl) (.inl rfl))
/-- A density plane written. -/
def stN (b : Fin 4) (v : FVec F S128x128 .f32) : K0 Λ F PUnit := do
  let _ ← Prog.lift (.load mN (Rect.unit (s := S4x1x128x128) ![b.val, 0, 0, 0] S1x1x128x128.size (inbN b)).toLoadRect (View.loadsAt_vmem h_S1x1x128x128))
  Prog.lift (.store mN (Rect.unit (s := S4x1x128x128) ![b.val, 0, 0, 0] S1x1x128x128.size (inbN b)) (shapeCast S1x1x128x128 v shapeCasts_S128x128_S1x1x128x128) Finset.univ (View.stores_vmem_bits_univ h_S1x1x128x128 rfl) (.inl rfl))

/-- A batch's results: every accumulator plus the transmittance left. -/
def batchOut (b : Fin 4) : K0 Λ F PUnit := do
  let T ← ldW bT
  let x0 ← ldX 0
  stO b 0 (addf x0 T)
  let x1 ← ldX 1
  stO b 1 (addf x1 T)
  let x2 ← ldX 2
  stO b 2 (addf x2 T)
  let d ← ldW bD
  stN b (addf d T)

/-- A batch: the two halves, the slow pass, the tie-filling pass, the results. -/
def batch (b : Fin 4) (sl : Fin 3) (slow fill : BitVec 32 → BitVec 1 → K0 Λ F (BitVec 32 × BitVec 1)) : K0 Λ F PUnit := do
  let N0 ← half b sl 0
  let N1 ← half b sl 1
  let _ ← slow 0#32 (doneOf2 N0 N1)
  let N ← ldW bN
  let _ ← fill 0#32 (doneOf N)
  batchOut b

/-- The body. -/
def bodyT (slow fill : Fin 4 → BitVec 32 → BitVec 1 → K0 Λ F (BitVec 32 × BitVec 1)) : K0 Λ F PUnit := do
  startFast 0 0
  startFast 1 1
  startFast 2 2
  waitFast 0 0
  batch 0 0 (slow 0) (fill 0)
  startFast 3 0
  waitFast 1 1
  batch 1 1 (slow 1) (fill 1)
  waitFast 2 2
  batch 2 2 (slow 2) (fill 2)
  waitFast 3 0
  batch 3 0 (slow 3) (fill 3)

end Cert.Kernel.Hand

end
-- ==== Proof.Vals.lean ====
/-
  Loads, stores and shape casts of the kernel's buffers read at an index.
-/
module

public import proofs.«01_k».proof.Proof.Template
public import Idealize.ShloMosaic.Lib.Pipeline.Value
public import Idealize.ShloMosaic.Lib.Pointwise.Index

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F] {α : Type}

/-- The row of a plane that row `i` of half `r` is. -/
def rowOf (r : Fin 2) (i : Fin 64) : Fin 128 := ⟨64 * r.val + i.val, by have := r.2; have := i.2; omega⟩

theorem cast_drop64 (v : S1x1x1x64x128.Idx → α) (h) (j : S64x128.Idx) : shapeCast S64x128 v h j = v (ix5 0 0 0 (j 0) (j 1)) := by
  apply shapeCast_apply
  rw [Shape.rowMajor_val_five, Shape.rowMajor_val_two]; simp
theorem cast_drop128 (v : S1x1x1x128x128.Idx → α) (h) (j : S128x128.Idx) : shapeCast S128x128 v h j = v (ix5 0 0 0 (j 0) (j 1)) := by
  apply shapeCast_apply
  rw [Shape.rowMajor_val_five, Shape.rowMajor_val_two]; simp
theorem cast_dropX (v : S1x128x128.Idx → α) (h) (j : S128x128.Idx) : shapeCast S128x128 v h j = v (ix3 0 (j 0) (j 1)) := by
  apply shapeCast_apply
  rw [Shape.rowMajor_val_three, Shape.rowMajor_val_two]; simp
theorem cast_addX (v : S128x128.Idx → α) (h) (j : S1x128x128.Idx) : shapeCast S1x128x128 v h j = v (ix2 (j 1) (j 2)) := by
  apply shapeCast_apply
  have : (j 0).val = 0 := by have h0 := (j 0).2; simp at h0; exact h0
  rw [Shape.rowMajor_val_three, Shape.rowMajor_val_two]; simp [this]
theorem cast_addX64 (v : S64x128.Idx → α) (h) (j : S1x64x128.Idx) : shapeCast S1x64x128 v h j = v (ix2 (j 1) (j 2)) := by
  apply shapeCast_apply
  have : (j 0).val = 0 := by have h0 := (j 0).2; simp at h0; exact h0
  rw [Shape.rowMajor_val_three, Shape.rowMajor_val_two]; simp [this]
theorem cast_addO (v : S128x128.Idx → α) (h) (j : S1x1x128x128.Idx) : shapeCast S1x1x128x128 v h j = v (ix2 (j 2) (j 3)) := by
  apply shapeCast_apply
  have : (j 0).val = 0 := by have h0 := (j 0).2; simp at h0; exact h0
  have : (j 1).val = 0 := by have h0 := (j 1).2; simp at h0; exact h0
  rw [Shape.rowMajor_val_four, Shape.rowMajor_val_two]; simp [*]

theorem readAt_unit (b : Ref sig .tc) (off size : Fin b.ty.shape.rank → ℕ) (inb : ∀ a, off a + size a ≤ b.ty.shape.size a)
    (f : b.ty.Contents (Elt F)) (x : (Rect.unit off size inb).shape.Idx) :
    (Memref.whole b : Memref sig .tc _ _ _).view.readAt (Elt F) (Rect.unit off size inb).toLoadRect f x
      = f (fun a => ⟨off a + (x a).val, Nat.lt_of_lt_of_le (Nat.add_lt_add_left (x a).2 _) (inb a)⟩) := by
  rw [View.readAt_apply, View.read_apply]
  show f _ = f _
  congr 1
  funext a; apply Fin.ext
  show off a + 1 * (x a).val = _
  simp

/-- A rectangle stored unmasked, read at an index inside. -/
theorem write_unit_in (b : Ref sig .tc) (off size : Fin b.ty.shape.rank → ℕ) (inb : ∀ a, off a + size a ≤ b.ty.shape.size a)
    (f : b.ty.Contents (Elt F)) (w : (Rect.unit off size inb).shape.Idx → Elt F b.ty.elt) (i : b.ty.Idx)
    (x : (Rect.unit off size inb).shape.Idx) (hx : ∀ a, (i a).val = off a + (x a).val) :
    ((Memref.whole b : Memref sig .tc _ _ _).access (Rect.unit off size inb)).write (Elt F) f w Finset.univ i = w x := by
  have e : ((Memref.whole b : Memref sig .tc _ _ _).access (Rect.unit off size inb)).emb x = i := by
    funext a; apply Fin.ext
    show off a + 1 * (x a).val = _
    rw [hx]; simp
  rw [← e, View.write_emb_of_mem _ _ (Finset.mem_univ x)]; rfl
/-- A rectangle stored unmasked, read at an index outside. -/
theorem write_unit_out (b : Ref sig .tc) (off size : Fin b.ty.shape.rank → ℕ) (inb : ∀ a, off a + size a ≤ b.ty.shape.size a)
    (f : b.ty.Contents (Elt F)) (w : (Rect.unit off size inb).shape.Idx → Elt F b.ty.elt) (i : b.ty.Idx)
    (hx : ∃ a, (i a).val < off a ∨ off a + size a ≤ (i a).val) :
    ((Memref.whole b : Memref sig .tc _ _ _).access (Rect.unit off size inb)).write (Elt F) f w Finset.univ i = f i := by
  apply View.write_of_not_mem
  intro hm
  obtain ⟨x, -, hxx⟩ := Finset.mem_map.mp hm
  obtain ⟨a, ha⟩ := hx
  have e : (i a).val = off a + 1 * (x a).val := by rw [← hxx]; rfl
  have := (x a).2
  have : (x a).val < size a := this
  omega

theorem read64A (f : S3x20x1x128x128.Idx → F .f32) (sl : Fin 3) (n : Fin 20) (r : Fin 2) (h) (j : S64x128.Idx) :
    shapeCast S64x128 (bA.view.readAt (Elt F) (Rect.unit (s := S3x20x1x128x128) ![sl.val, n.val, 0, 64 * r.val, 0] S1x1x1x64x128.size (inbA sl n r)).toLoadRect f) h j
      = f (ix5 sl n 0 (rowOf r (j 0)) (j 1)) := by
  rw [cast_drop64, readAt_unit cc0_scratch0]
  congr 1
  funext a; apply Fin.ext
  fin_cases a <;> simp [rowOf, ix5]
theorem read64C (f : S3x20x3x128x128.Idx → F .f32) (sl : Fin 3) (n : Fin 20) (k : Fin 3) (r : Fin 2) (h) (j : S64x128.Idx) :
    shapeCast S64x128 (bC.view.readAt (Elt F) (Rect.unit (s := S3x20x3x128x128) ![sl.val, n.val, k.val, 64 * r.val, 0] S1x1x1x64x128.size (inbC sl n k r)).toLoadRect f) h j
      = f (ix5 sl n k (rowOf r (j 0)) (j 1)) := by
  rw [cast_drop64, readAt_unit cc0_scratch1]
  congr 1
  funext a; apply Fin.ext
  fin_cases a <;> simp [rowOf, ix5]
/-- A place of a four-stroke chunk among a slot's twenty. -/
def q20 (q : Fin 4) : Fin 20 := ⟨q.val, by have := q.2; omega⟩
theorem readAW (f : S3x20x1x128x128.Idx → F .f32) (sl : Fin 3) (q : Fin 4) (h) (j : S128x128.Idx) :
    shapeCast S128x128 (bA.view.readAt (Elt F) (Rect.unit (s := S3x20x1x128x128) ![sl.val, q.val, 0, 0, 0] S1x1x1x128x128.size (inbAW sl q)).toLoadRect f) h j
      = f (ix5 sl (q20 q) 0 (j 0) (j 1)) := by
  rw [cast_drop128, readAt_unit cc0_scratch0]
  congr 1
  funext a; apply Fin.ext
  fin_cases a <;> simp [q20, ix5]
theorem readCW (f : S3x20x3x128x128.Idx → F .f32) (sl : Fin 3) (q : Fin 4) (k : Fin 3) (h) (j : S128x128.Idx) :
    shapeCast S128x128 (bC.view.readAt (Elt F) (Rect.unit (s := S3x20x3x128x128) ![sl.val, q.val, k.val, 0, 0] S1x1x1x128x128.size (inbCW sl q k)).toLoadRect f) h j
      = f (ix5 sl (q20 q) k (j 0) (j 1)) := by
  rw [cast_drop128, readAt_unit cc0_scratch1]
  congr 1
  funext a; apply Fin.ext
  fin_cases a <;> simp [q20, ix5]
theorem readX (f : S3x128x128.Idx → F .f32) (k : Fin 3) (h) (j : S128x128.Idx) :
    shapeCast S128x128 (bX.view.readAt (Elt F) (Rect.unit (s := S3x128x128) ![k.val, 0, 0] S1x128x128.size (inbXW k)).toLoadRect f) h j
      = f (ix3 k (j 0) (j 1)) := by
  rw [cast_dropX, readAt_unit cc0_scratch3]
  congr 1
  funext a; apply Fin.ext
  fin_cases a <;> simp [ix3]
theorem readP (f : S4x256x8.Idx → F .f32) (o : Fin 3 → ℕ) (hi : ∀ a, o a + S1x1x1.size a ≤ S4x256x8.size a) (h) :
    extractAt ![0, 0, 0] (mP.view.readAt (Elt F) (Rect.unit (s := S4x256x8) o S1x1x1.size hi).toLoadRect f) h
      = f (fun a => ⟨o a, Nat.lt_of_succ_le (by have := hi a; fin_cases a <;> simpa using this)⟩) := by
  unfold extractAt
  rw [readAt_unit cc0_stg0_0]
  congr 1
  funext a; apply Fin.ext
  fin_cases a <;> simp

theorem rdA20 (f : S3x20x1x128x128.Idx → F .f32) (sl : Fin 3) (n : Fin 20) (y x : Fin 128) :
    (dA20 sl).view.read (Elt F) f (ix4 n 0 y x) = f (ix5 sl n 0 y x) := by
  unfold dA20
  rw [Memref.read_squeeze_slice (hc := (by decide : S1x20x1x128x128.ShapeCasts S20x1x128x128)), shapeCast_apply _ _ _ (ix5 0 n 0 y x), readAt_unit cc0_scratch0]
  · congr 1
    funext a; apply Fin.ext
    fin_cases a <;> simp [ix5]
  · rw [Shape.rowMajor_val_five, Shape.rowMajor_val_four]; simp [ix5, ix4]
theorem rdC20 (f : S3x20x3x128x128.Idx → F .f32) (sl : Fin 3) (n : Fin 20) (k : Fin 3) (y x : Fin 128) :
    (dC20 sl).view.read (Elt F) f (ix4 n k y x) = f (ix5 sl n k y x) := by
  unfold dC20
  rw [Memref.read_squeeze_slice (hc := (by decide : S1x20x3x128x128.ShapeCasts S20x3x128x128)), shapeCast_apply _ _ _ (ix5 0 n k y x), readAt_unit cc0_scratch1]
  · congr 1
    funext a; apply Fin.ext
    fin_cases a <;> simp [ix5]
  · rw [Shape.rowMajor_val_five, Shape.rowMajor_val_four]; simp [ix5, ix4]
theorem rsA20 (f : S4x256x1x128x128.Idx → F .f32) (b : Fin 4) (n : Fin 20) (y x : Fin 128) :
    (sA20 b).view.read (Elt F) f (ix4 n 0 y x) = f (ix5 b (strokeOf n) 0 y x) := by
  unfold sA20
  rw [Memref.read_squeeze_slice (hc := (by decide : S1x20x1x128x128.ShapeCasts S20x1x128x128)), shapeCast_apply _ _ _ (ix5 0 n 0 y x), readAt_unit main_arg1]
  · congr 1
    funext a; apply Fin.ext
    fin_cases a <;> simp [ix5, strokeOf]
  · rw [Shape.rowMajor_val_five, Shape.rowMajor_val_four]; simp [ix5, ix4]
theorem rsC20 (f : S4x256x3x128x128.Idx → F .f32) (b : Fin 4) (n : Fin 20) (k : Fin 3) (y x : Fin 128) :
    (sC20 b).view.read (Elt F) f (ix4 n k y x) = f (ix5 b (strokeOf n) k y x) := by
  unfold sC20
  rw [Memref.read_squeeze_slice (hc := (by decide : S1x20x3x128x128.ShapeCasts S20x3x128x128)), shapeCast_apply _ _ _ (ix5 0 n k y x), readAt_unit main_arg0]
  · congr 1
    funext a; apply Fin.ext
    fin_cases a <;> simp [ix5, strokeOf]
  · rw [Shape.rowMajor_val_five, Shape.rowMajor_val_four]; simp [ix5, ix4]
theorem rdA4 (f : S3x20x1x128x128.Idx → F .f32) (sl : Fin 3) (q : Fin 4) (y x : Fin 128) :
    (dA4 sl).view.read (Elt F) f (ix4 q 0 y x) = f (ix5 sl (q20 q) 0 y x) := by
  unfold dA4
  rw [Memref.read_squeeze_slice (hc := (by decide : S1x4x1x128x128.ShapeCasts S4x1x128x128)), shapeCast_apply _ _ _ (ix5 0 q 0 y x), readAt_unit cc0_scratch0]
  · congr 1
    funext a; apply Fin.ext
    fin_cases a <;> simp [ix5, q20]
  · rw [Shape.rowMajor_val_five, Shape.rowMajor_val_four]; simp [ix5, ix4]
theorem rdC4 (f : S3x20x3x128x128.Idx → F .f32) (sl : Fin 3) (q : Fin 4) (k : Fin 3) (y x : Fin 128) :
    (dC4 sl).view.read (Elt F) f (ix4 q k y x) = f (ix5 sl (q20 q) k y x) := by
  unfold dC4
  rw [Memref.read_squeeze_slice (hc := (by decide : S1x4x3x128x128.ShapeCasts S4x3x128x128)), shapeCast_apply _ _ _ (ix5 0 q k y x), readAt_unit cc0_scratch1]
  · congr 1
    funext a; apply Fin.ext
    fin_cases a <;> simp [ix5, q20]
  · rw [Shape.rowMajor_val_five, Shape.rowMajor_val_four]; simp [ix5, ix4]
theorem rsA4 (f : S4x256x1x128x128.Idx → F .f32) (b : Fin 4) (w : BitVec 32) (h) (q : Fin 4) (n : Fin 256) (hn : n.val = w.toNat + q.val) (y x : Fin 128) :
    (sA4 (offB b w) h).view.read (Elt F) f (ix4 q 0 y x) = f (ix5 b n 0 y x) := by
  unfold sA4
  rw [Memref.read_squeeze_slice (hc := (by decide : S1x4x1x128x128.ShapeCasts S4x1x128x128)), shapeCast_apply _ _ _ (ix5 0 q 0 y x), readAt_unit main_arg1]
  · congr 1
    funext a; apply Fin.ext
    fin_cases a <;> simp [ix5, hn]
  · rw [Shape.rowMajor_val_five, Shape.rowMajor_val_four]; simp [ix5, ix4]
theorem rsC4 (f : S4x256x3x128x128.Idx → F .f32) (b : Fin 4) (w : BitVec 32) (h) (q : Fin 4) (n : Fin 256) (hn : n.val = w.toNat + q.val) (k : Fin 3) (y x : Fin 128) :
    (sC4 (offB b w) h).view.read (Elt F) f (ix4 q k y x) = f (ix5 b n k y x) := by
  unfold sC4
  rw [Memref.read_squeeze_slice (hc := (by decide : S1x4x3x128x128.ShapeCasts S4x3x128x128)), shapeCast_apply _ _ _ (ix5 0 q k y x), readAt_unit main_arg0]
  · congr 1
    funext a; apply Fin.ext
    fin_cases a <;> simp [ix5, hn]
  · rw [Shape.rowMajor_val_five, Shape.rowMajor_val_four]; simp [ix5, ix4]

/-! ## Slots and batches -/

/-- The elements of slot `sl` of the alpha ring. -/
def slotA (sl : Fin 3) : Finset S3x20x1x128x128.Idx := Finset.univ.filter fun i => (i 0).val = sl.val
/-- The elements of slot `sl` of the colour ring. -/
def slotC (sl : Fin 3) : Finset S3x20x3x128x128.Idx := Finset.univ.filter fun i => (i 0).val = sl.val
/-- The elements of batch `b` of the alpha operand. -/
def batA (b : Fin 4) : Finset S4x256x1x128x128.Idx := Finset.univ.filter fun i => (i 0).val = b.val
/-- The elements of batch `b` of the colour operand. -/
def batC (b : Fin 4) : Finset S4x256x3x128x128.Idx := Finset.univ.filter fun i => (i 0).val = b.val

theorem rect_slot {s : Shape} (h0 : 0 < s.rank) (off size : Fin s.rank → ℕ) (inb : ∀ a, off a + size a ≤ s.size a) (k : ℕ)
    (ho : off ⟨0, h0⟩ = k) (hs : size ⟨0, h0⟩ = 1) : (Rect.unit (s := s) off size inb).set ⊆ Finset.univ.filter fun i => (i ⟨0, h0⟩).val = k := by
  intro i hi
  obtain ⟨x, hx, e⟩ := (LoadRect.mem_set _).mp hi ⟨0, h0⟩
  change x < size _ at hx
  change _ = off _ + 1 * x at e
  simp only [Finset.mem_filter, Finset.mem_univ, true_and]
  omega
theorem setOn_whole (b : Ref sig .tc) (M : Finset b.ty.Idx) : (Memref.whole b : Memref sig .tc _ _ _).view.setOn M = M := by
  ext i; constructor
  · intro h; obtain ⟨x, hx, rfl⟩ := Finset.mem_map.mp h; exact hx
  · intro h; exact Finset.mem_map.mpr ⟨i, h, rfl⟩
theorem dA20_set (sl : Fin 3) : (dA20 sl).view.set ⊆ slotA sl := by
  unfold dA20
  refine (View.set_reshape _ _).le.trans ((View.set_slice_whole _ _).le.trans (rect_slot (s := S3x20x1x128x128) (by decide) _ _ _ _ rfl rfl))
theorem dC20_set (sl : Fin 3) : (dC20 sl).view.set ⊆ slotC sl := by
  unfold dC20
  refine (View.set_reshape _ _).le.trans ((View.set_slice_whole _ _).le.trans (rect_slot (s := S3x20x3x128x128) (by decide) _ _ _ _ rfl rfl))
theorem dA4_set (sl : Fin 3) : (dA4 sl).view.set ⊆ slotA sl := by
  unfold dA4
  refine (View.set_reshape _ _).le.trans ((View.set_slice_whole _ _).le.trans (rect_slot (s := S3x20x1x128x128) (by decide) _ _ _ _ rfl rfl))
theorem dC4_set (sl : Fin 3) : (dC4 sl).view.set ⊆ slotC sl := by
  unfold dC4
  refine (View.set_reshape _ _).le.trans ((View.set_slice_whole _ _).le.trans (rect_slot (s := S3x20x3x128x128) (by decide) _ _ _ _ rfl rfl))
theorem sA20_set (b : Fin 4) : (sA20 b).view.set ⊆ batA b := by
  unfold sA20
  refine (View.set_reshape _ _).le.trans ((View.set_slice_whole _ _).le.trans (rect_slot (s := S4x256x1x128x128) (by decide) _ _ _ _ rfl rfl))
theorem sC20_set (b : Fin 4) : (sC20 b).view.set ⊆ batC b := by
  unfold sC20
  refine (View.set_reshape _ _).le.trans ((View.set_slice_whole _ _).le.trans (rect_slot (s := S4x256x3x128x128) (by decide) _ _ _ _ rfl rfl))
theorem sA4_set (b : Fin 4) (w : BitVec 32) (h) : (sA4 (offB b w) h).view.set ⊆ batA b := by
  unfold sA4
  refine (View.set_reshape _ _).le.trans ((View.set_slice_whole _ _).le.trans (rect_slot (s := S4x256x1x128x128) (by decide) _ _ _ _ rfl rfl))
theorem sC4_set (b : Fin 4) (w : BitVec 32) (h) : (sC4 (offB b w) h).view.set ⊆ batC b := by
  unfold sC4
  refine (View.set_reshape _ _).le.trans ((View.set_slice_whole _ _).le.trans (rect_slot (s := S4x256x3x128x128) (by decide) _ _ _ _ rfl rfl))
theorem ldA_set (sl : Fin 3) (n : Fin 20) (r : Fin 2) : bA.view.setOn (Rect.unit (s := S3x20x1x128x128) ![sl.val, n.val, 0, 64 * r.val, 0] S1x1x1x64x128.size (inbA sl n r)).toLoadRect.set ⊆ slotA sl := by
  rw [setOn_whole]
  exact rect_slot (s := S3x20x1x128x128) (by decide) _ _ _ _ rfl rfl
theorem ldC_set (sl : Fin 3) (n : Fin 20) (k : Fin 3) (r : Fin 2) : bC.view.setOn (Rect.unit (s := S3x20x3x128x128) ![sl.val, n.val, k.val, 64 * r.val, 0] S1x1x1x64x128.size (inbC sl n k r)).toLoadRect.set ⊆ slotC sl := by
  rw [setOn_whole]
  exact rect_slot (s := S3x20x3x128x128) (by decide) _ _ _ _ rfl rfl
theorem ldAW_set (sl : Fin 3) (q : Fin 4) : bA.view.setOn (Rect.unit (s := S3x20x1x128x128) ![sl.val, q.val, 0, 0, 0] S1x1x1x128x128.size (inbAW sl q)).toLoadRect.set ⊆ slotA sl := by
  rw [setOn_whole]
  exact rect_slot (s := S3x20x1x128x128) (by decide) _ _ _ _ rfl rfl
theorem ldCW_set (sl : Fin 3) (q : Fin 4) (k : Fin 3) : bC.view.setOn (Rect.unit (s := S3x20x3x128x128) ![sl.val, q.val, k.val, 0, 0] S1x1x1x128x128.size (inbCW sl q k)).toLoadRect.set ⊆ slotC sl := by
  rw [setOn_whole]
  exact rect_slot (s := S3x20x3x128x128) (by decide) _ _ _ _ rfl rfl

end Cert.Kernel.Hand
end
-- ==== Proof.Ops.lean ====
/-
  What the kernel's loads and stores do to the buffers they reach.
-/
module

public import proofs.«01_k».proof.Proof.Vals
public import proofs.«01_k».proof.Proof.Gen.Kernel.Launch
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {Λ : Labels} {D : Defs nD τ sig (Elt F) Λ}

local notation "𝕄" => MT nD τ sig Unit (Elt F) ℕ (Pipeline.UD sig nD τ) ℕ

/-- The weakest precondition of a piece of the body on core `c`, its calls below `bd`. -/
abbrev WP {α : Type} (D : Defs nD τ sig (Elt F) Λ) (c : Dev nD) (bd : Option ℕ) (p : K0 Λ F α) (Q : α → sProp 𝕄) : sProp 𝕄 :=
  wp frame (wpE D Variants.nat (c : Thread nD τ) bd) Set.univ p Q

/-- Slot `sl` of the alpha ring at `f`. -/
abbrev pA (c : Dev nD) (sl : Fin 3) (f : S3x20x1x128x128.Idx → F .f32) : sProp 𝕄 :=
  bA.view.loc (c : Thread nD τ) ↦[slotA sl]{fullShare} f
/-- Slot `sl` of the colour ring at `f`. -/
abbrev pC (c : Dev nD) (sl : Fin 3) (f : S3x20x3x128x128.Idx → F .f32) : sProp 𝕄 :=
  bC.view.loc (c : Thread nD τ) ↦[slotC sl]{fullShare} f

variable {c : Dev nD} {bd : Option ℕ}

theorem ret_spec {α : Type} {a : α} {Q : α → sProp 𝕄} : Q a ⊢ WP D c bd (.ret a) Q := BI.fupd_intro

theorem bind_spec {α β : Type} {p : K0 Λ F α} {k : α → K0 Λ F β} {Q : β → sProp 𝕄} :
    WP D c bd p (fun a => WP D c bd (k a) Q) ⊢ WP D c bd (p >>= k) Q := by
  unfold WP; rw [wp_bind]

/-- A load of a buffer held through a view reads the view's values. -/
theorem ld_owns {α : Type} {cs : CoreSpace} {s : Shape} {e : EltTy} {m : Memref sig .tc cs s e} {r : LoadRect s} {hl : m.view.LoadsAt r} {q : PosShare TreeShare}
    {d : s.Idx → Elt F e} {k : (r.shape.Idx → Elt F e) → K0 Λ F α} {Q : α → sProp 𝕄} :
    iprop(owns (c : Thread nD τ) m q d ∗ (owns (c : Thread nD τ) m q d -∗ WP D c bd (k (fun x => d (r.idx x))) Q)) ⊢ WP D c bd (.op (.load m r hl) k) Q := by
  unfold owns
  iintro ⟨⟨%f, %hf, H⟩, HK⟩
  iapply (wp_load Variants.nat (c : Thread nD τ) bd Set.univ (m := m) (r := r) (View.setOn_subset_set _ _)) $$ H
  iintro H
  rw [show m.view.readAt (Elt F) r f = (fun x => d (r.idx x)) from by rw [← hf]; rfl]
  iapply HK
  iexists f
  isplitr
  · ipureintro; exact hf
  iexact H

/-- A store into a buffer held through a view leaves the stored values on the rectangle and the others elsewhere. -/
theorem st_owns {α : Type} {cs : CoreSpace} {s : Shape} {e : EltTy} {m : Memref sig .tc cs s e} {r : Rect s} {w : r.shape.Idx → Elt F e}
    {hx : (m.access r).Stores Finset.univ} {hm} {d d' : s.Idx → Elt F e} {k : PUnit → K0 Λ F α} {Q : α → sProp 𝕄}
    (hin : ∀ x, d' (r.toLoadRect.idx x) = w x) (hout : ∀ i, i ∉ r.toLoadRect.set → d' i = d i) :
    iprop(owns (c : Thread nD τ) m fullShare d ∗ (owns (c : Thread nD τ) m fullShare d' -∗ WP D c bd (k ⟨⟩) Q)) ⊢ WP D c bd (.op (.store m r w Finset.univ hx hm) k) Q := by
  unfold owns
  iintro ⟨⟨%f, %hf, H⟩, HK⟩
  iapply (wp_store Variants.nat (c : Thread nD τ) bd Set.univ (m := m) (r := r) (Mk := Finset.univ) (S := m.view.set) (View.set_slice_subset _ _)) $$ H
  iintro H
  iapply HK
  iexists _
  isplitr
  swap; · iexact H
  ipureintro
  funext i
  by_cases hi : i ∈ r.toLoadRect.set
  · obtain ⟨x, rfl⟩ : ∃ x, r.toLoadRect.idx x = i := by
      obtain ⟨x, -, hx⟩ := Finset.mem_map.mp ((Rect.map_emb_univ r).symm ▸ hi)
      exact ⟨x, hx⟩
    rw [hin]
    exact congrFun (View.read_write_univ (v := m.access r) f w) x
  · rw [hout i hi, ← hf, View.read_apply, View.read_apply, View.write_of_not_mem]
    intro hm'
    obtain ⟨x, -, hx⟩ := Finset.mem_map.mp hm'
    exact hi (m.view.emb.injective hx ▸ r.toLoadRect.idx_mem x)

theorem ldA_spec {sl : Fin 3} {n : Fin 20} {r : Fin 2} {f : S3x20x1x128x128.Idx → F .f32} {Q : FVec F S64x128 .f32 → sProp 𝕄} :
    iprop(pA c sl f ∗ (pA c sl f -∗ Q (fun j => f (ix5 sl n 0 (rowOf r (j 0)) (j 1))))) ⊢ WP D c bd (ldA sl n r) Q := by
  unfold ldA
  simp only [Prog.lift, Prog.bind_op, Prog.bind_ret, Prog.pure_eq_ret]
  iintro ⟨H, HK⟩
  iapply (wp_load Variants.nat (c : Thread nD τ) bd Set.univ (m := bA) (ldA_set sl n r)) $$ H
  iintro H
  rw [show shapeCast S64x128 (bA.view.readAt (Elt F) (Rect.unit (s := S3x20x1x128x128) ![sl.val, n.val, 0, 64 * r.val, 0] S1x1x1x64x128.size (inbA sl n r)).toLoadRect f) shapeCasts_S1x1x1x64x128_S64x128 = _ from funext fun j => read64A f sl n r _ j]
  iapply ret_spec
  iapply HK $$ H
theorem ldC_spec {sl : Fin 3} {n : Fin 20} {k : Fin 3} {r : Fin 2} {f : S3x20x3x128x128.Idx → F .f32} {Q : FVec F S64x128 .f32 → sProp 𝕄} :
    iprop(pC c sl f ∗ (pC c sl f -∗ Q (fun j => f (ix5 sl n k (rowOf r (j 0)) (j 1))))) ⊢ WP D c bd (ldC sl n k r) Q := by
  unfold ldC
  simp only [Prog.lift, Prog.bind_op, Prog.bind_ret, Prog.pure_eq_ret]
  iintro ⟨H, HK⟩
  iapply (wp_load Variants.nat (c : Thread nD τ) bd Set.univ (m := bC) (ldC_set sl n k r)) $$ H
  iintro H
  rw [show shapeCast S64x128 (bC.view.readAt (Elt F) (Rect.unit (s := S3x20x3x128x128) ![sl.val, n.val, k.val, 64 * r.val, 0] S1x1x1x64x128.size (inbC sl n k r)).toLoadRect f) shapeCasts_S1x1x1x64x128_S64x128 = _ from funext fun j => read64C f sl n k r _ j]
  iapply ret_spec
  iapply HK $$ H
theorem ldAW_spec {sl : Fin 3} {q : Fin 4} {f : S3x20x1x128x128.Idx → F .f32} {Q : FVec F S128x128 .f32 → sProp 𝕄} :
    iprop(pA c sl f ∗ (pA c sl f -∗ Q (fun j => f (ix5 sl (q20 q) 0 (j 0) (j 1))))) ⊢ WP D c bd (ldAW sl q) Q := by
  unfold ldAW
  simp only [Prog.lift, Prog.bind_op, Prog.bind_ret, Prog.pure_eq_ret]
  iintro ⟨H, HK⟩
  iapply (wp_load Variants.nat (c : Thread nD τ) bd Set.univ (m := bA) (ldAW_set sl q)) $$ H
  iintro H
  rw [show shapeCast S128x128 (bA.view.readAt (Elt F) (Rect.unit (s := S3x20x1x128x128) ![sl.val, q.val, 0, 0, 0] S1x1x1x128x128.size (inbAW sl q)).toLoadRect f) shapeCasts_S1x1x1x128x128_S128x128 = _ from funext fun j => readAW f sl q _ j]
  iapply ret_spec
  iapply HK $$ H
theorem ldCW_spec {sl : Fin 3} {q : Fin 4} {k : Fin 3} {f : S3x20x3x128x128.Idx → F .f32} {Q : FVec F S128x128 .f32 → sProp 𝕄} :
    iprop(pC c sl f ∗ (pC c sl f -∗ Q (fun j => f (ix5 sl (q20 q) k (j 0) (j 1))))) ⊢ WP D c bd (ldCW sl q k) Q := by
  unfold ldCW
  simp only [Prog.lift, Prog.bind_op, Prog.bind_ret, Prog.pure_eq_ret]
  iintro ⟨H, HK⟩
  iapply (wp_load Variants.nat (c : Thread nD τ) bd Set.univ (m := bC) (ldCW_set sl q k)) $$ H
  iintro H
  rw [show shapeCast S128x128 (bC.view.readAt (Elt F) (Rect.unit (s := S3x20x3x128x128) ![sl.val, q.val, k.val, 0, 0] S1x1x1x128x128.size (inbCW sl q k)).toLoadRect f) shapeCasts_S1x1x1x128x128_S128x128 = _ from funext fun j => readCW f sl q k _ j]
  iapply ret_spec
  iapply HK $$ H

/-- The parameters held at `d`. -/
abbrev oP (c : Dev nD) (d : S4x256x8.Idx → F .f32) : sProp 𝕄 := owns (c : Thread nD τ) mP fullShare d

theorem ldP_spec {b : Fin 4} {n : Fin 256} {k : Fin 8} {d : S4x256x8.Idx → F .f32} {Q : F .f32 → sProp 𝕄} :
    iprop(oP c d ∗ (oP c d -∗ Q (d (ix3 b n k)))) ⊢ WP D c bd (ldP b n k) Q := by
  unfold ldP
  simp only [Prog.lift, Prog.bind_op, Prog.bind_ret, Prog.pure_eq_ret]
  iintro ⟨H, HK⟩
  iapply ld_owns
  isplitl [H]; · iexact H
  iintro H
  iapply ret_spec
  rw [show extractAt ![0, 0, 0] (fun x => d ((Rect.unit (s := S4x256x8) ![b.val, n.val, k.val] S1x1x1.size (inbP b n k)).toLoadRect.idx x)) inpos_S1x1x1_p0_0_0 = d (ix3 b n k) from by
    unfold extractAt; dsimp only; congr 1; funext a; apply Fin.ext; fin_cases a <;> simp [Rect.unit, LoadRect.idx, ix3]]
  iapply HK $$ H

theorem ldW_spec {e : EltTy} {m : Memref sig .tc .vmem S128x128 e} {d : S128x128.Idx → Elt F e} {Q : (S128x128.Idx → Elt F e) → sProp 𝕄} :
    iprop(owns (c : Thread nD τ) m fullShare d ∗ (owns (c : Thread nD τ) m fullShare d -∗ Q d)) ⊢ WP D c bd (ldW m) Q := by
  unfold ldW
  simp only [Prog.lift]
  iintro ⟨H, HK⟩
  iapply ld_owns
  isplitl [H]; · iexact H
  iintro H
  iapply ret_spec
  rw [show (fun x => d ((Rect.unit (s := S128x128) ![0, 0] S128x128.size inb_S128x128_S128x128_0_0).toLoadRect.idx x)) = d from by
    funext x; congr 1; funext a; apply Fin.ext; fin_cases a <;> simp [Rect.unit, LoadRect.idx]]
  iapply HK $$ H

theorem stW_spec {e : EltTy} {he : EltTy.bits e = 32} {m : Memref sig .tc .vmem S128x128 e} {d v : S128x128.Idx → Elt F e} {Q : PUnit → sProp 𝕄} :
    iprop(owns (c : Thread nD τ) m fullShare d ∗ (owns (c : Thread nD τ) m fullShare v -∗ Q ⟨⟩)) ⊢ WP D c bd (stW he m v) Q := by
  unfold stW
  simp only [Prog.lift, Prog.bind_op, Prog.bind_ret, Prog.pure_eq_ret, ldW]
  iintro ⟨H, HK⟩
  iapply ld_owns
  isplitl [H]; · iexact H
  iintro H
  iapply (st_owns (d' := v) (fun x => ?_) (fun i hi => ?_))
  · rw [shapeCast_self]; congr 1; funext a; apply Fin.ext; fin_cases a <;> simp [Rect.unit, LoadRect.idx]
  · exact absurd ((LoadRect.mem_set _).mpr fun a => ⟨(i a).val, (i a).2, by fin_cases a <;> simp [Rect.unit]⟩) hi
  isplitl [H]; · iexact H
  iintro H
  iapply ret_spec
  iapply HK $$ H

/-- The colour accumulator held at three planes. -/
def xOf (x0 x1 x2 : FVec F S128x128 .f32) : S3x128x128.Idx → F .f32 := fun i =>
  match i 0 with | ⟨0, _⟩ => x0 (ix2 (i 1) (i 2)) | ⟨1, _⟩ => x1 (ix2 (i 1) (i 2)) | ⟨2, _⟩ => x2 (ix2 (i 1) (i 2))

theorem ldX_spec {k : Fin 3} {d : S3x128x128.Idx → F .f32} {Q : FVec F S128x128 .f32 → sProp 𝕄} :
    iprop(owns (c : Thread nD τ) bX fullShare d ∗ (owns (c : Thread nD τ) bX fullShare d -∗ Q (fun j => d (ix3 k (j 0) (j 1))))) ⊢ WP D c bd (ldX k) Q := by
  unfold ldX
  simp only [Prog.lift, Prog.bind_op, Prog.bind_ret, Prog.pure_eq_ret]
  iintro ⟨H, HK⟩
  iapply ld_owns
  isplitl [H]; · iexact H
  iintro H
  iapply ret_spec
  rw [show shapeCast S128x128 (fun x => d ((Rect.unit (s := S3x128x128) ![k.val, 0, 0] S1x128x128.size (inbXW k)).toLoadRect.idx x)) shapeCasts_S1x128x128_S128x128 = (fun j => d (ix3 k (j 0) (j 1))) from by
    funext j; rw [cast_dropX]; congr 1; funext a; apply Fin.ext; fin_cases a <;> simp [Rect.unit, LoadRect.idx, ix3]]
  iapply HK $$ H

/-- Plane `k` of the colour accumulator replaced. -/
def setX (d : S3x128x128.Idx → F .f32) (k : Fin 3) (v : FVec F S128x128 .f32) : S3x128x128.Idx → F .f32 := fun i =>
  if (i 0).val = k.val then v (ix2 (i 1) (i 2)) else d i

theorem stXW_spec {k : Fin 3} {d : S3x128x128.Idx → F .f32} {v : FVec F S128x128 .f32} {Q : PUnit → sProp 𝕄} :
    iprop(owns (c : Thread nD τ) bX fullShare d ∗ (owns (c : Thread nD τ) bX fullShare (setX d k v) -∗ Q ⟨⟩)) ⊢ WP D c bd (stXW k v) Q := by
  unfold stXW
  iintro ⟨H, HK⟩
  iapply bind_spec
  iapply ldX_spec
  isplitl [H]; · iexact H
  iintro H
  simp only [Prog.lift]
  iapply (st_owns (d' := setX d k v) (fun x => ?_) (fun i hi => ?_))
  · have h0 : (x 0).val = 0 := by have h0 := (x 0).2; simp at h0; exact h0
    rw [cast_addX]; unfold setX
    rw [if_pos (by simp [Rect.unit, LoadRect.idx, h0])]
    congr 1; funext a; apply Fin.ext; fin_cases a <;> simp [Rect.unit, LoadRect.idx, ix2]
  · unfold setX
    rw [if_neg]
    intro h0
    refine hi ((LoadRect.mem_set _).mpr fun a => ?_)
    fin_cases a
    · exact ⟨0, by simp [Rect.unit], by simpa [Rect.unit] using h0⟩
    · exact ⟨(i 1).val, (i 1).2, by simp [Rect.unit]⟩
    · exact ⟨(i 2).val, (i 2).2, by simp [Rect.unit]⟩
  isplitl [H]; · iexact H
  iintro H
  iapply ret_spec
  iapply HK $$ H

end Cert.Kernel.Hand
end
-- ==== Proof.Pure.lean ====
/-
  What the kernel computes, as functions of its three operands: the twenty steps of a batch's fast pass over a whole
  plane, the chunks of its slow and tie-filling passes, and its results.
-/
module

public import proofs.«01_k».proof.Proof.Vals

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

/-- The three operands. -/
structure Ins (F : FTy → Type) where
  A : S4x256x1x128x128.Idx → F .f32
  C : S4x256x3x128x128.Idx → F .f32
  P : S4x256x8.Idx → F .f32

/-- Stroke `n` (modulo 256). -/
def stroke (n : ℕ) : Fin 256 := ⟨n % 256, Nat.mod_lt _ (by decide)⟩

namespace Ins
variable (I : Ins F)

/-- A stroke's alpha plane. -/
def a (b : Fin 4) (n : Fin 256) : FVec F S128x128 .f32 := fun j => I.A (ix5 b n 0 (j 0) (j 1))
/-- A stroke's colour plane. -/
def c (b : Fin 4) (n : Fin 256) (k : Fin 3) : FVec F S128x128 .f32 := fun j => I.C (ix5 b n k (j 0) (j 1))
/-- A stroke's density. -/
def p (b : Fin 4) (n : Fin 256) : F .f32 := Scalar.mulf (I.P (ix3 b n 2)) (I.P (ix3 b n 3))

end Ins

/-- One step blended where `t` says, the density given as a function of the weight. -/
def St.put {s : Shape} (st : St F s) (t : IVec s 1) (a c0 c1 c2 : FVec F s .f32) (dd : FVec F s .f32 → FVec F s .f32) : St F s :=
  { T := subf st.T (wgt t st.T a), N := addi st.N (extui 32 t natLt_1_32)
    X0 := addf st.X0 (mulf (wgt t st.T a) c0), X1 := addf st.X1 (mulf (wgt t st.T a) c1), X2 := addf st.X2 (mulf (wgt t st.T a) c2)
    D := dd (wgt t st.T a) }

namespace Ins
variable (I : Ins F) (b : Fin 4)

/-- The step of a visible stroke `n`. -/
def stepV (n : Fin 256) (st : St F S128x128) : St F S128x128 := st.step (I.a b n) (I.c b n 0) (I.c b n 1) (I.c b n 2) (I.p b n)
/-- The step of a stroke `n` that fills a tie. -/
def stepI (n : Fin 256) (st : St F S128x128) : St F S128x128 :=
  st.put (takeI st.N (I.a b n)) (I.a b n) (I.c b n 0) (I.c b n 1) (I.c b n 2) fun _ => st.D

/-- The fast pass's last `n` steps: strokes `236 + n - 1` down to `236`. -/
def fast : (n : ℕ) → n ≤ 20 → St F S128x128 → St F S128x128
  | 0, _, st => st
  | n + 1, h, st => fast n (Nat.le_of_succ_le h) (I.stepV b (strokeOf ⟨n, h⟩) st)

/-- The first `t` trips of a slow chunk: strokes `first + 3` down. -/
def slowTrips (first : ℕ) : ℕ → St F S128x128 → St F S128x128
  | 0, st => st
  | t + 1, st => I.stepV b (stroke (first + 3 - t)) (slowTrips first t st)
/-- The first `t` trips of a tie-filling chunk: strokes `first` up. -/
def fillTrips (first : ℕ) : ℕ → St F S128x128 → St F S128x128
  | 0, st => st
  | t + 1, st => I.stepI b (stroke (first + t)) (fillTrips first t st)

/-- The slow pass from chunk `i` with `k` chunks left. -/
def slowFrom : (k i : ℕ) → BitVec 1 → St F S128x128 → St F S128x128
  | 0, _, _, st => st
  | k + 1, i, d, st => if d = 1#1 then st else slowFrom k (i + 1) (doneOf (I.slowTrips b ((58 - i) * 4) 4 st).N) (I.slowTrips b ((58 - i) * 4) 4 st)
/-- The tie-filling pass from chunk `i` with `k` chunks left. -/
def fillFrom : (k i : ℕ) → BitVec 1 → St F S128x128 → St F S128x128
  | 0, _, _, st => st
  | k + 1, i, d, st => if d = 1#1 then st else fillFrom k (i + 1) (doneOf (I.fillTrips b (i * 4) 4 st).N) (I.fillTrips b (i * 4) 4 st)

end Ins

/-- The rows of half `r` of a plane. -/
def rowsV {α : Type} (r : Fin 2) (v : S128x128.Idx → α) : S64x128.Idx → α := fun j => v (ix2 (rowOf r (j 0)) (j 1))
/-- The rows of half `r` of a state. -/
def St.rows (r : Fin 2) (st : St F S128x128) : St F S64x128 :=
  { T := rowsV r st.T, N := rowsV r st.N, X0 := rowsV r st.X0, X1 := rowsV r st.X1, X2 := rowsV r st.X2, D := rowsV r st.D }

theorem rows_init (r : Fin 2) : (St.init F S128x128).rows r = St.init F S64x128 := rfl
theorem rows_step (r : Fin 2) (st : St F S128x128) (a c0 c1 c2 : FVec F S128x128 .f32) (p : F .f32) :
    (st.step a c0 c1 c2 p).rows r = (st.rows r).step (rowsV r a) (rowsV r c0) (rowsV r c1) (rowsV r c2) p := rfl

namespace Ins
variable (I : Ins F) (b : Fin 4)
/-- A batch after its fast pass. -/
def stFast : St F S128x128 := I.fast b 20 le_rfl (St.init F S128x128)
/-- A batch after its slow pass. -/
def stSlow : St F S128x128 :=
  I.slowFrom b 59 0 (doneOf2 (rowsV 0 (I.stFast b).N) (rowsV 1 (I.stFast b).N)) (I.stFast b)
/-- A batch after its tie-filling pass. -/
def stFill : St F S128x128 := I.fillFrom b 64 0 (doneOf (I.stSlow b).N) (I.stSlow b)
/-- The canvas. -/
def canvas : S4x3x128x128.Idx → F .f32 := fun i =>
  match i 1 with
  | ⟨0, _⟩ => addf (I.stFill (i 0)).X0 (I.stFill (i 0)).T (ix2 (i 2) (i 3))
  | ⟨1, _⟩ => addf (I.stFill (i 0)).X1 (I.stFill (i 0)).T (ix2 (i 2) (i 3))
  | ⟨2, _⟩ => addf (I.stFill (i 0)).X2 (I.stFill (i 0)).T (ix2 (i 2) (i 3))
/-- The density map. -/
def dens : S4x1x128x128.Idx → F .f32 := fun i => addf (I.stFill (i 0)).D (I.stFill (i 0)).T (ix2 (i 2) (i 3))
end Ins

end Cert.Kernel.Hand
end
-- ==== Proof.Steps.lean ====
/-
  The steps of the fast pass, its halves, the trips of the refill passes and the results' stores, each as a rule over
  the buffers it reaches.
-/
module

public import proofs.«01_k».proof.Proof.Ops
public import proofs.«01_k».proof.Proof.Pure

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {Λ : Labels} {D : Defs nD τ sig (Elt F) Λ}

local notation "𝕄" => MT nD τ sig Unit (Elt F) ℕ (Pipeline.UD sig nD τ) ℕ

variable {c : Dev nD} {bd : Option ℕ}

/-- Slot `sl` of the alpha ring holds batch `b`'s last twenty alpha planes. -/
def HasA (I : Ins F) (b : Fin 4) (sl : Fin 3) (f : S3x20x1x128x128.Idx → F .f32) : Prop :=
  ∀ (n : Fin 20) (y x : Fin 128), f (ix5 sl n 0 y x) = I.A (ix5 b (strokeOf n) 0 y x)
/-- Slot `sl` of the colour ring holds batch `b`'s last twenty colour planes. -/
def HasC (I : Ins F) (b : Fin 4) (sl : Fin 3) (f : S3x20x3x128x128.Idx → F .f32) : Prop :=
  ∀ (n : Fin 20) (k : Fin 3) (y x : Fin 128), f (ix5 sl n k y x) = I.C (ix5 b (strokeOf n) k y x)
/-- Slot `sl` of the alpha ring starts with batch `b`'s alpha planes `first, …, first + 3`. -/
def HasA4 (I : Ins F) (b : Fin 4) (first : ℕ) (sl : Fin 3) (f : S3x20x1x128x128.Idx → F .f32) : Prop :=
  ∀ (q : Fin 4) (y x : Fin 128), f (ix5 sl (q20 q) 0 y x) = I.A (ix5 b (stroke (first + q.val)) 0 y x)
/-- Slot `sl` of the colour ring starts with batch `b`'s colour planes `first, …, first + 3`. -/
def HasC4 (I : Ins F) (b : Fin 4) (first : ℕ) (sl : Fin 3) (f : S3x20x3x128x128.Idx → F .f32) : Prop :=
  ∀ (q : Fin 4) (k : Fin 3) (y x : Fin 128), f (ix5 sl (q20 q) k y x) = I.C (ix5 b (stroke (first + q.val)) k y x)

theorem fastStep_spec {I : Ins F} {b : Fin 4} {sl : Fin 3} {r : Fin 2} {n : Fin 20} {st : St F S128x128} {fA fC} (hA : HasA I b sl fA) (hC : HasC I b sl fC)
    {Q : St F S64x128 → sProp 𝕄} :
    iprop(pA c sl fA ∗ pC c sl fC ∗ oP c I.P ∗ (pA c sl fA ∗ pC c sl fC ∗ oP c I.P -∗ Q ((I.stepV b (strokeOf n) st).rows r)))
      ⊢ WP D c bd (fastStep b sl r n (st.rows r)) Q := by
  unfold fastStep
  iintro ⟨HA, HC, HP, HK⟩
  iapply bind_spec
  iapply ldA_spec
  isplitl [HA]; · iexact HA
  iintro HA
  iapply bind_spec
  iapply ldC_spec
  isplitl [HC]; · iexact HC
  iintro HC
  iapply bind_spec
  iapply ldC_spec
  isplitl [HC]; · iexact HC
  iintro HC
  iapply bind_spec
  iapply ldC_spec
  isplitl [HC]; · iexact HC
  iintro HC
  iapply bind_spec
  iapply ldP_spec
  isplitl [HP]; · iexact HP
  iintro HP
  iapply bind_spec
  iapply ldP_spec
  isplitl [HP]; · iexact HP
  iintro HP
  iapply ret_spec
  rw [Ins.stepV, rows_step]
  rw [show (fun j : S64x128.Idx => fA (ix5 sl n 0 (rowOf r (j 0)) (j 1))) = rowsV r (I.a b (strokeOf n)) from funext fun j => hA _ _ _,
    show (fun j : S64x128.Idx => fC (ix5 sl n 0 (rowOf r (j 0)) (j 1))) = rowsV r (I.c b (strokeOf n) 0) from funext fun j => hC _ _ _ _,
    show (fun j : S64x128.Idx => fC (ix5 sl n 1 (rowOf r (j 0)) (j 1))) = rowsV r (I.c b (strokeOf n) 1) from funext fun j => hC _ _ _ _,
    show (fun j : S64x128.Idx => fC (ix5 sl n 2 (rowOf r (j 0)) (j 1))) = rowsV r (I.c b (strokeOf n) 2) from funext fun j => hC _ _ _ _]
  rw [show I.p b (strokeOf n) = Scalar.mulf (I.P (ix3 b (strokeOf n) 2)) (I.P (ix3 b (strokeOf n) 3)) from rfl]
  iapply HK
  isplitl [HA]; · iexact HA
  isplitl [HC]; · iexact HC
  iexact HP

theorem fastSteps_spec {I : Ins F} {b : Fin 4} {sl : Fin 3} {r : Fin 2} {fA fC} (hA : HasA I b sl fA) (hC : HasC I b sl fC) :
    ∀ (n : ℕ) (h : n ≤ 20) (st : St F S128x128) {Q : St F S64x128 → sProp 𝕄},
    iprop(pA c sl fA ∗ pC c sl fC ∗ oP c I.P ∗ (pA c sl fA ∗ pC c sl fC ∗ oP c I.P -∗ Q ((I.fast b n h st).rows r)))
      ⊢ WP D c bd (fastSteps b sl r n h (st.rows r)) Q
  | 0, h, st, Q => by
    unfold fastSteps
    rw [show I.fast b 0 h st = st from rfl]
    iintro ⟨HA, HC, HP, HK⟩
    iapply ret_spec
    iapply HK
    isplitl [HA]; · iexact HA
    isplitl [HC]; · iexact HC
    iexact HP
  | n + 1, h, st, Q => by
    unfold fastSteps
    iintro ⟨HA, HC, HP, HK⟩
    iapply bind_spec
    iapply (fastStep_spec hA hC)
    isplitl [HA]; · iexact HA
    isplitl [HC]; · iexact HC
    isplitl [HP]; · iexact HP
    iintro ⟨HA, HC, HP⟩
    iapply (fastSteps_spec hA hC n (Nat.le_of_succ_le h))
    isplitl [HA]; · iexact HA
    isplitl [HC]; · iexact HC
    isplitl [HP]; · iexact HP
    iexact HK

/-- A plane whose half `r` is replaced. -/
def mixH {α : Type} (r : Fin 2) (d v : S128x128.Idx → α) : S128x128.Idx → α := fun i => if (i 0).val / 64 = r.val then v i else d i
/-- The colour accumulator with half `r` of plane `k` replaced. -/
def mixX (k : Fin 3) (r : Fin 2) (d : S3x128x128.Idx → F .f32) (v : FVec F S128x128 .f32) : S3x128x128.Idx → F .f32 := fun i =>
  if (i 0).val = k.val ∧ (i 1).val / 64 = r.val then v (ix2 (i 1) (i 2)) else d i

theorem stH_spec {e : EltTy} {he : EltTy.bits e = 32} {m : Memref sig .tc .vmem S128x128 e} {r : Fin 2} {d v : S128x128.Idx → Elt F e} {Q : PUnit → sProp 𝕄} :
    iprop(owns (c : Thread nD τ) m fullShare d ∗ (owns (c : Thread nD τ) m fullShare (mixH r d v) -∗ Q ⟨⟩)) ⊢ WP D c bd (stH he m r (rowsV r v)) Q := by
  unfold stH
  simp only [Prog.lift, Prog.bind_op, Prog.bind_ret, Prog.pure_eq_ret]
  iintro ⟨H, HK⟩
  iapply ld_owns
  isplitl [H]; · iexact H
  iintro H
  iapply (st_owns (d' := mixH r d v) (fun x => ?_) (fun i hi => ?_))
  · have h0 : (x 0).val < 64 := (x 0).2
    rw [shapeCast_self]; unfold mixH rowsV
    rw [if_pos (by simp [Rect.unit, LoadRect.idx]; omega)]
    congr 1; funext a; apply Fin.ext; fin_cases a <;> simp [Rect.unit, LoadRect.idx, ix2, rowOf]
  · unfold mixH
    rw [if_neg]
    intro h0
    refine hi ((LoadRect.mem_set _).mpr fun a => ?_)
    fin_cases a
    · exact ⟨(i 0).val - 64 * r.val, by have h1 : (i 0).val < 128 := (i 0).2; simp [Rect.unit]; omega, by simp [Rect.unit]; omega⟩
    · exact ⟨(i 1).val, (i 1).2, by simp [Rect.unit]⟩
  isplitl [H]; · iexact H
  iintro H
  iapply ret_spec
  iapply HK $$ H

theorem stX_spec {k : Fin 3} {r : Fin 2} {d : S3x128x128.Idx → F .f32} {v : FVec F S128x128 .f32} {Q : PUnit → sProp 𝕄} :
    iprop(owns (c : Thread nD τ) bX fullShare d ∗ (owns (c : Thread nD τ) bX fullShare (mixX k r d v) -∗ Q ⟨⟩)) ⊢ WP D c bd (stX k r (rowsV r v)) Q := by
  unfold stX
  simp only [Prog.lift, Prog.bind_op, Prog.bind_ret, Prog.pure_eq_ret]
  iintro ⟨H, HK⟩
  iapply ld_owns
  isplitl [H]; · iexact H
  iintro H
  iapply (st_owns (d' := mixX k r d v) (fun x => ?_) (fun i hi => ?_))
  · have h0 : (x 0).val = 0 := by have h0 := (x 0).2; simp at h0; exact h0
    have h1 : (x 1).val < 64 := (x 1).2
    rw [cast_addX64]; unfold mixX rowsV
    rw [if_pos (by simp [Rect.unit, LoadRect.idx, h0]; omega)]
    congr 1; funext a; apply Fin.ext; fin_cases a <;> simp [Rect.unit, LoadRect.idx, ix2, rowOf]
  · unfold mixX
    rw [if_neg]
    rintro ⟨h0, h1⟩
    refine hi ((LoadRect.mem_set _).mpr fun a => ?_)
    fin_cases a
    · exact ⟨0, by simp [Rect.unit], by simpa [Rect.unit] using h0⟩
    · exact ⟨(i 1).val - 64 * r.val, by have h1 : (i 1).val < 128 := (i 1).2; simp [Rect.unit]; omega, by simp [Rect.unit]; omega⟩
    · exact ⟨(i 2).val, (i 2).2, by simp [Rect.unit]⟩
  isplitl [H]; · iexact H
  iintro H
  iapply ret_spec
  iapply HK $$ H

/-- A half: from any accumulators, its rows of every accumulator become the fast pass's. -/
theorem half_spec {I : Ins F} {b : Fin 4} {sl : Fin 3} {r : Fin 2} {fA fC} (hA : HasA I b sl fA) (hC : HasC I b sl fC)
    {dT : S128x128.Idx → F .f32} {dN : S128x128.Idx → BitVec 32} {dX : S3x128x128.Idx → F .f32} {dD : S128x128.Idx → F .f32} {Q : IVec S64x128 32 → sProp 𝕄} :
    iprop(pA c sl fA ∗ pC c sl fC ∗ oP c I.P
      ∗ owns (c : Thread nD τ) bT fullShare dT ∗ owns (c : Thread nD τ) bN fullShare dN ∗ owns (c : Thread nD τ) bX fullShare dX ∗ owns (c : Thread nD τ) bD fullShare dD
      ∗ (pA c sl fA ∗ pC c sl fC ∗ oP c I.P
        ∗ owns (c : Thread nD τ) bT fullShare (mixH r dT (I.stFast b).T) ∗ owns (c : Thread nD τ) bN fullShare (mixH r dN (I.stFast b).N)
        ∗ owns (c : Thread nD τ) bX fullShare (mixX 2 r (mixX 1 r (mixX 0 r dX (I.stFast b).X0) (I.stFast b).X1) (I.stFast b).X2)
        ∗ owns (c : Thread nD τ) bD fullShare (mixH r dD (I.stFast b).D) -∗ Q (rowsV r (I.stFast b).N)))
      ⊢ WP D c bd (half b sl r) Q := by
  unfold half
  iintro ⟨HA, HC, HP, HT, HN, HX, HD, HK⟩
  iapply bind_spec
  rw [← rows_init r]
  iapply (fastSteps_spec hA hC 20 le_rfl)
  isplitl [HA]; · iexact HA
  isplitl [HC]; · iexact HC
  isplitl [HP]; · iexact HP
  iintro ⟨HA, HC, HP⟩
  iapply bind_spec
  iapply (stH_spec (m := bT) (v := (I.stFast b).T))
  isplitl [HT]; · iexact HT
  iintro HT
  iapply bind_spec
  iapply (stH_spec (m := bN) (v := (I.stFast b).N))
  isplitl [HN]; · iexact HN
  iintro HN
  iapply bind_spec
  iapply (stX_spec (v := (I.stFast b).X0))
  isplitl [HX]; · iexact HX
  iintro HX
  iapply bind_spec
  iapply (stX_spec (v := (I.stFast b).X1))
  isplitl [HX]; · iexact HX
  iintro HX
  iapply bind_spec
  iapply (stX_spec (v := (I.stFast b).X2))
  isplitl [HX]; · iexact HX
  iintro HX
  iapply bind_spec
  iapply (stH_spec (m := bD) (v := (I.stFast b).D))
  isplitl [HD]; · iexact HD
  iintro HD
  iapply ret_spec
  rw [show ((I.fast b 20 le_rfl (St.init F S128x128)).rows r).N = rowsV r (I.stFast b).N from rfl]
  iapply HK
  isplitl [HA]; · iexact HA
  isplitl [HC]; · iexact HC
  isplitl [HP]; · iexact HP
  isplitl [HT]; · iexact HT
  isplitl [HN]; · iexact HN
  isplitl [HX]; · iexact HX
  iexact HD

theorem mixH_both {α : Type} (d v : S128x128.Idx → α) : mixH 1 (mixH 0 d v) v = v := by
  funext i
  have h0 : (i 0).val < 128 := (i 0).2
  have : (i 0).val / 64 = 0 ∨ (i 0).val / 64 = 1 := by omega
  rcases this with h | h <;> simp [mixH, h]
theorem mixX_all (d : S3x128x128.Idx → F .f32) (x0 x1 x2 : FVec F S128x128 .f32) :
    mixX 2 1 (mixX 1 1 (mixX 0 1 (mixX 2 0 (mixX 1 0 (mixX 0 0 d x0) x1) x2) x0) x1) x2 = xOf x0 x1 x2 := by
  funext i
  have h0 : (i 1).val < 128 := (i 1).2
  have h : (i 1).val / 64 = 0 ∨ (i 1).val / 64 = 1 := by omega
  unfold mixX xOf
  generalize i 0 = k
  fin_cases k <;> rcases h with h | h <;> simp [h]

/-- The accumulators at a state. -/
def acc (c : Dev nD) (st : St F S128x128) : sProp 𝕄 :=
  iprop(owns (c : Thread nD τ) bT fullShare st.T ∗ owns (c : Thread nD τ) bN fullShare st.N
    ∗ owns (c : Thread nD τ) bX fullShare (xOf st.X0 st.X1 st.X2) ∗ owns (c : Thread nD τ) bD fullShare st.D)

theorem setX_0 (x0 x1 x2 v : FVec F S128x128 .f32) : setX (xOf x0 x1 x2) 0 v = xOf v x1 x2 := by
  funext i; unfold setX xOf; generalize i 0 = k; fin_cases k <;> simp
theorem setX_1 (x0 x1 x2 v : FVec F S128x128 .f32) : setX (xOf x0 x1 x2) 1 v = xOf x0 v x2 := by
  funext i; unfold setX xOf; generalize i 0 = k; fin_cases k <;> simp
theorem setX_2 (x0 x1 x2 v : FVec F S128x128 .f32) : setX (xOf x0 x1 x2) 2 v = xOf x0 x1 v := by
  funext i; unfold setX xOf; generalize i 0 = k; fin_cases k <;> simp
theorem ix2_eta (j : S128x128.Idx) : ix2 (j 0) (j 1) = j := by
  funext a; fin_cases a <;> rfl
theorem xOf_0 (x0 x1 x2 : FVec F S128x128 .f32) : (fun j : S128x128.Idx => xOf x0 x1 x2 (ix3 0 (j 0) (j 1))) = x0 :=
  funext fun j => congrArg x0 (ix2_eta j)
theorem xOf_1 (x0 x1 x2 : FVec F S128x128 .f32) : (fun j : S128x128.Idx => xOf x0 x1 x2 (ix3 1 (j 0) (j 1))) = x1 :=
  funext fun j => congrArg x1 (ix2_eta j)
theorem xOf_2 (x0 x1 x2 : FVec F S128x128 .f32) : (fun j : S128x128.Idx => xOf x0 x1 x2 (ix3 2 (j 0) (j 1))) = x2 :=
  funext fun j => congrArg x2 (ix2_eta j)

/-- One trip of a refill pass. -/
theorem trip_spec {sl : Fin 3} {q : Fin 4} {take : IVec S128x128 32 → FVec F S128x128 .f32 → IVec S128x128 1} {dens : FVec F S128x128 .f32 → K0 Λ F PUnit}
    {st : St F S128x128} {fA fC} {a c0 c1 c2 : FVec F S128x128 .f32} {dd : FVec F S128x128 .f32 → FVec F S128x128 .f32} {R : sProp 𝕄}
    (ha : (fun j : S128x128.Idx => fA (ix5 sl (q20 q) 0 (j 0) (j 1))) = a)
    (h0 : (fun j : S128x128.Idx => fC (ix5 sl (q20 q) 0 (j 0) (j 1))) = c0)
    (h1 : (fun j : S128x128.Idx => fC (ix5 sl (q20 q) 1 (j 0) (j 1))) = c1)
    (h2 : (fun j : S128x128.Idx => fC (ix5 sl (q20 q) 2 (j 0) (j 1))) = c2)
    (hd : ∀ (w : FVec F S128x128 .f32) (Q : PUnit → sProp 𝕄), iprop(owns (c : Thread nD τ) bD fullShare st.D ∗ R ∗ (owns (c : Thread nD τ) bD fullShare (dd w) ∗ R -∗ Q ⟨⟩)) ⊢ WP D c bd (dens w) Q)
    {Q : BitVec 32 → sProp 𝕄} :
    iprop(pA c sl fA ∗ pC c sl fC ∗ R ∗ acc c st ∗ (pA c sl fA ∗ pC c sl fC ∗ R ∗ acc c (st.put (take st.N a) a c0 c1 c2 dd) -∗ Q 0#32))
      ⊢ WP D c bd (trip sl q take dens) Q := by
  subst ha h0 h1 h2
  unfold trip acc
  iintro ⟨HA, HC, HR, ⟨HT, HN, HX, HD⟩, HK⟩
  iapply bind_spec
  iapply ldAW_spec
  isplitl [HA]; · iexact HA
  iintro HA
  iapply bind_spec
  iapply ldW_spec
  isplitl [HN]; · iexact HN
  iintro HN
  iapply bind_spec
  iapply ldW_spec
  isplitl [HT]; · iexact HT
  iintro HT
  iapply bind_spec
  iapply ldX_spec
  isplitl [HX]; · iexact HX
  iintro HX
  rw [xOf_0]
  iapply bind_spec
  iapply ldCW_spec
  isplitl [HC]; · iexact HC
  iintro HC
  iapply bind_spec
  iapply stXW_spec
  isplitl [HX]; · iexact HX
  rw [setX_0]
  iintro HX
  iapply bind_spec
  iapply ldX_spec
  isplitl [HX]; · iexact HX
  iintro HX
  rw [xOf_1]
  iapply bind_spec
  iapply ldCW_spec
  isplitl [HC]; · iexact HC
  iintro HC
  iapply bind_spec
  iapply stXW_spec
  isplitl [HX]; · iexact HX
  rw [setX_1]
  iintro HX
  iapply bind_spec
  iapply ldX_spec
  isplitl [HX]; · iexact HX
  iintro HX
  rw [xOf_2]
  iapply bind_spec
  iapply ldCW_spec
  isplitl [HC]; · iexact HC
  iintro HC
  iapply bind_spec
  iapply stXW_spec
  isplitl [HX]; · iexact HX
  rw [setX_2]
  iintro HX
  iapply bind_spec
  iapply hd
  isplitl [HD]; · iexact HD
  isplitl [HR]; · iexact HR
  iintro ⟨HD, HR⟩
  iapply bind_spec
  iapply stW_spec
  isplitl [HT]; · iexact HT
  iintro HT
  iapply bind_spec
  iapply stW_spec
  isplitl [HN]; · iexact HN
  iintro HN
  iapply ret_spec
  iapply HK
  isplitl [HA]; · iexact HA
  isplitl [HC]; · iexact HC
  isplitl [HR]; · iexact HR
  isplitl [HT]; · iexact HT
  isplitl [HN]; · iexact HN
  isplitl [HX]; · iexact HX
  iexact HD

/-- A visible stroke's density added. -/
theorem densP_spec {o2 o3 : Fin 3 → ℕ} {h2 h3} {i2 i3 : S4x256x8.Idx} (e2 : ∀ a, (i2 a).val = o2 a) (e3 : ∀ a, (i3 a).val = o3 a) {P : S4x256x8.Idx → F .f32}
    {d w : FVec F S128x128 .f32} {Q : PUnit → sProp 𝕄} :
    iprop(owns (c : Thread nD τ) bD fullShare d ∗ oP c P ∗ (owns (c : Thread nD τ) bD fullShare (addf d (mulf w (broadcast S128x128 (Scalar.mulf (P i2) (P i3))))) ∗ oP c P -∗ Q ⟨⟩))
      ⊢ WP D c bd (densP o2 o3 h2 h3 w) Q := by
  unfold densP
  iintro ⟨HD, HP, HK⟩
  iapply bind_spec
  iapply ldW_spec
  isplitl [HD]; · iexact HD
  iintro HD
  simp only [Prog.lift, Prog.bind_op, Prog.bind_ret]
  iapply ld_owns
  isplitl [HP]; · iexact HP
  iintro HP
  iapply ld_owns
  isplitl [HP]; · iexact HP
  iintro HP
  rw [show extractAt ![0, 0, 0] (fun x => P ((Rect.unit (s := S4x256x8) o2 S1x1x1.size h2).toLoadRect.idx x)) inpos_S1x1x1_p0_0_0 = P i2 from by
      unfold extractAt; dsimp only; congr 1; funext a; apply Fin.ext; rw [e2]; fin_cases a <;> simp [Rect.unit, LoadRect.idx],
    show extractAt ![0, 0, 0] (fun x => P ((Rect.unit (s := S4x256x8) o3 S1x1x1.size h3).toLoadRect.idx x)) inpos_S1x1x1_p0_0_0 = P i3 from by
      unfold extractAt; dsimp only; congr 1; funext a; apply Fin.ext; rw [e3]; fin_cases a <;> simp [Rect.unit, LoadRect.idx]]
  iapply stW_spec
  isplitl [HD]; · iexact HD
  iintro HD
  iapply HK
  isplitl [HD]; · iexact HD
  iexact HP

/-- Plane `(b, k)` of the canvas replaced. -/
def setO (b : Fin 4) (k : Fin 3) (d : S4x3x128x128.Idx → F .f32) (v : FVec F S128x128 .f32) : S4x3x128x128.Idx → F .f32 := fun i =>
  if (i 0).val = b.val ∧ (i 1).val = k.val then v (ix2 (i 2) (i 3)) else d i
/-- Plane `b` of the density map replaced. -/
def setN (b : Fin 4) (d : S4x1x128x128.Idx → F .f32) (v : FVec F S128x128 .f32) : S4x1x128x128.Idx → F .f32 := fun i =>
  if (i 0).val = b.val then v (ix2 (i 2) (i 3)) else d i

theorem stO_spec {b : Fin 4} {k : Fin 3} {d : S4x3x128x128.Idx → F .f32} {v : FVec F S128x128 .f32} {Q : PUnit → sProp 𝕄} :
    iprop(owns (c : Thread nD τ) mO fullShare d ∗ (owns (c : Thread nD τ) mO fullShare (setO b k d v) -∗ Q ⟨⟩)) ⊢ WP D c bd (stO b k v) Q := by
  unfold stO
  simp only [Prog.lift, Prog.bind_op, Prog.bind_ret, Prog.pure_eq_ret]
  iintro ⟨H, HK⟩
  iapply ld_owns
  isplitl [H]; · iexact H
  iintro H
  iapply (st_owns (d' := setO b k d v) (fun x => ?_) (fun i hi => ?_))
  · have h0 : (x 0).val = 0 := by have h0 := (x 0).2; simp at h0; exact h0
    have h1 : (x 1).val = 0 := by have h0 := (x 1).2; simp at h0; exact h0
    rw [cast_addO]; unfold setO
    rw [if_pos (by simp [Rect.unit, LoadRect.idx, h0, h1])]
    congr 1; funext a; apply Fin.ext; fin_cases a <;> simp [Rect.unit, LoadRect.idx, ix2]
  · unfold setO
    rw [if_neg]
    rintro ⟨h0, h1⟩
    refine hi ((LoadRect.mem_set _).mpr fun a => ?_)
    fin_cases a
    · exact ⟨0, by simp [Rect.unit], by simpa [Rect.unit] using h0⟩
    · exact ⟨0, by simp [Rect.unit], by simpa [Rect.unit] using h1⟩
    · exact ⟨(i 2).val, (i 2).2, by simp [Rect.unit]⟩
    · exact ⟨(i 3).val, (i 3).2, by simp [Rect.unit]⟩
  isplitl [H]; · iexact H
  iintro H
  iapply ret_spec
  iapply HK $$ H

theorem stN_spec {b : Fin 4} {d : S4x1x128x128.Idx → F .f32} {v : FVec F S128x128 .f32} {Q : PUnit → sProp 𝕄} :
    iprop(owns (c : Thread nD τ) mN fullShare d ∗ (owns (c : Thread nD τ) mN fullShare (setN b d v) -∗ Q ⟨⟩)) ⊢ WP D c bd (stN b v) Q := by
  unfold stN
  simp only [Prog.lift, Prog.bind_op, Prog.bind_ret, Prog.pure_eq_ret]
  iintro ⟨H, HK⟩
  iapply ld_owns
  isplitl [H]; · iexact H
  iintro H
  iapply (st_owns (d' := setN b d v) (fun x => ?_) (fun i hi => ?_))
  · have h0 : (x 0).val = 0 := by have h0 := (x 0).2; simp at h0; exact h0
    rw [cast_addO]; unfold setN
    rw [if_pos (by simp [Rect.unit, LoadRect.idx, h0])]
    congr 1; funext a; apply Fin.ext; fin_cases a <;> simp [Rect.unit, LoadRect.idx, ix2]
  · unfold setN
    rw [if_neg]
    intro h0
    have h1 : (i 1).val = 0 := by have h0 := (i 1).2; simp at h0; exact h0
    refine hi ((LoadRect.mem_set _).mpr fun a => ?_)
    fin_cases a
    · exact ⟨0, by simp [Rect.unit], by simpa [Rect.unit] using h0⟩
    · exact ⟨0, by simp [Rect.unit], by simpa [Rect.unit] using h1⟩
    · exact ⟨(i 2).val, (i 2).2, by simp [Rect.unit]⟩
    · exact ⟨(i 3).val, (i 3).2, by simp [Rect.unit]⟩
  isplitl [H]; · iexact H
  iintro H
  iapply ret_spec
  iapply HK $$ H

/-- A batch's planes of the canvas replaced by a state's results. -/
def outO (b : Fin 4) (d : S4x3x128x128.Idx → F .f32) (st : St F S128x128) : S4x3x128x128.Idx → F .f32 :=
  setO b 2 (setO b 1 (setO b 0 d (addf st.X0 st.T)) (addf st.X1 st.T)) (addf st.X2 st.T)

/-- A batch's results stored. -/
theorem batchOut_spec {b : Fin 4} {st : St F S128x128} {dO : S4x3x128x128.Idx → F .f32} {dN : S4x1x128x128.Idx → F .f32} {Q : PUnit → sProp 𝕄} :
    iprop(acc c st ∗ owns (c : Thread nD τ) mO fullShare dO ∗ owns (c : Thread nD τ) mN fullShare dN
      ∗ (acc c st ∗ owns (c : Thread nD τ) mO fullShare (outO b dO st) ∗ owns (c : Thread nD τ) mN fullShare (setN b dN (addf st.D st.T)) -∗ Q ⟨⟩))
      ⊢ WP D c bd (batchOut b) Q := by
  unfold batchOut acc outO
  iintro ⟨⟨HT, HN, HX, HD⟩, HO, HM, HK⟩
  iapply bind_spec
  iapply ldW_spec
  isplitl [HT]; · iexact HT
  iintro HT
  iapply bind_spec
  iapply ldX_spec
  isplitl [HX]; · iexact HX
  iintro HX
  rw [xOf_0]
  iapply bind_spec
  iapply stO_spec
  isplitl [HO]; · iexact HO
  iintro HO
  iapply bind_spec
  iapply ldX_spec
  isplitl [HX]; · iexact HX
  iintro HX
  rw [xOf_1]
  iapply bind_spec
  iapply stO_spec
  isplitl [HO]; · iexact HO
  iintro HO
  iapply bind_spec
  iapply ldX_spec
  isplitl [HX]; · iexact HX
  iintro HX
  rw [xOf_2]
  iapply bind_spec
  iapply stO_spec
  isplitl [HO]; · iexact HO
  iintro HO
  iapply bind_spec
  iapply ldW_spec
  isplitl [HD]; · iexact HD
  iintro HD
  iapply stN_spec
  isplitl [HM]; · iexact HM
  iintro HM
  iapply HK
  isplitl [HT HN HX HD]
  · isplitl [HT]; · iexact HT
    isplitl [HN]; · iexact HN
    isplitl [HX]; · iexact HX
    iexact HD
  isplitl [HO]; · iexact HO
  iexact HM

end Cert.Kernel.Hand
end
-- ==== Proof.Dma.lean ====
/-
  The kernel's copies: a copy started lends its source's elements and the slot it fills, and the wait gives both back,
  the slot filled.
-/
module

public import proofs.«01_k».proof.Proof.Steps
public import Idealize.ShloMosaic.Lib.Transfers

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {Λ : Labels} {D : Defs nD τ sig (Elt F) Λ}

local notation "𝕄" => MT nD τ sig Unit (Elt F) ℕ (Pipeline.UD sig nD τ) ℕ

variable {c : Dev nD} {bd : Option ℕ}

local notation "EC" => countersEmb (U := Pipeline.UD sig nD τ) (nD := nD) (τ := τ) (sig := sig) (Ix := Unit) (Val := Elt F) (Name := ℕ) (Lvl := ℕ)

/-- A copy in flight from the elements `src` of a buffer held on `Ss` into the elements `dst` of a buffer held on `Sd`. -/
def Fly {s : Shape} (c : Dev nD) (src : Memref sig .tc .hbm s .f32) (dst : Memref sig .tc .vmem s .f32) (sm : DmaSem sig)
    (Ss : Finset (Idx (src.view.loc (c : Thread nD τ)))) (Sd : Finset (Idx (dst.view.loc (c : Thread nD τ))))
    (fs : Buf (Elt F) (src.view.loc (c : Thread nD τ))) (fd : Buf (Elt F) (dst.view.loc (c : Thread nD τ))) : sProp 𝕄 :=
  iprop(Transfers.Flight EC (c : Thread nD τ) (.dma sm) () dst.view.dmaCredit
      iprop((dst.view.loc (c : Thread nD τ) ↦[Sd]{fullShare} (dst.view.write (Elt F) fd (src.view.read (Elt F) fs) Finset.univ))
        ∗ (src.view.loc (c : Thread nD τ) ↦[src.view.set]{fullShare} fs))
    ∗ (src.view.loc (c : Thread nD τ) ↦[Ss \ src.view.set]{fullShare} fs))

theorem start_spec {s : Shape} (hs : 0 < s.numel) {src : Memref sig .tc .hbm s .f32} {dst : Memref sig .tc .vmem s .f32} {sm : DmaSem sig}
    {h1 h2 h3} {Ss : Finset (Idx (src.view.loc (c : Thread nD τ)))} {Sd : Finset (Idx (dst.view.loc (c : Thread nD τ)))}
    (hSs : src.view.set ⊆ Ss) (hSd : dst.view.set ⊆ Sd)
    {fs : Buf (Elt F) (src.view.loc (c : Thread nD τ))} {fd : Buf (Elt F) (dst.view.loc (c : Thread nD τ))} {Q : PUnit → sProp 𝕄} :
    iprop((src.view.loc (c : Thread nD τ) ↦[Ss]{fullShare} fs) ∗ (dst.view.loc (c : Thread nD τ) ↦[Sd]{fullShare} fd) ∗ semVal ((c : Thread nD τ), SemLoc.dma sm) 0
      ∗ (Fly c src dst sm Ss Sd fs fd -∗ Q ⟨⟩)) ⊢ WP D c bd (Prog.lift (.enqueueDma src (.here dst) (.dma sm) h1 h2 h3)) Q := by
  simp only [Prog.lift]
  unfold Fly
  iintro ⟨Hs, Hd, Hv, HK⟩
  ihave Hs := (pointsTo_split_subset (q := fullShare) (f := fs) hSs).1 $$ Hs
  icases Hs with ⟨Hs, Hr⟩
  iapply (Transfers.wp_dmaLocal EC Variants.nat (c : Thread nD τ) bd (via := .same) () dst.view.dmaCredit rfl (View.dmaCredit_pos _ hs) hSd) $$ [Hs Hd Hv]
  · isplitl [Hs]; · iexact Hs
    isplitl [Hd]; · iexact Hd
    iexact Hv
  iintro HF
  iapply ret_spec
  iapply HK
  isplitl [HF]; · iexact HF
  iexact Hr

/-- The waits a core owes: none, whatever it has waited for. -/
def Owes (c : Dev nD) : sProp 𝕄 := iprop(∃ W, owes (c : Thread nD τ) 0 W)

theorem wait_spec {s : Shape} {src : Memref sig .tc .hbm s .f32} {dst : Memref sig .tc .vmem s .f32} {sm : DmaSem sig}
    {h1 h2} {Ss : Finset (Idx (src.view.loc (c : Thread nD τ)))} {Sd : Finset (Idx (dst.view.loc (c : Thread nD τ)))}
    (hSs : src.view.set ⊆ Ss)
    {fs : Buf (Elt F) (src.view.loc (c : Thread nD τ))} {fd : Buf (Elt F) (dst.view.loc (c : Thread nD τ))} {Q : PUnit → sProp 𝕄} :
    iprop(Fly c src dst sm Ss Sd fs fd ∗ Owes c
      ∗ ((src.view.loc (c : Thread nD τ) ↦[Ss]{fullShare} fs)
        ∗ (dst.view.loc (c : Thread nD τ) ↦[Sd]{fullShare} (dst.view.write (Elt F) fd (src.view.read (Elt F) fs) Finset.univ))
        ∗ semVal ((c : Thread nD τ), SemLoc.dma sm) 0 ∗ Owes c -∗ Q ⟨⟩))
      ⊢ WP D c bd (Prog.lift (.waitDma2 sm src dst h1 h2)) Q := by
  simp only [Prog.lift]
  unfold Fly Owes
  iintro ⟨⟨HF, Hr⟩, ⟨%W, HW⟩, HK⟩
  iapply (Transfers.wp_waitLocal EC Variants.nat (c : Thread nD τ) bd () rfl) $$ [HF HW]
  · isplitl [HF]; · iexact HF
    iexact HW
  iintro ⟨⟨Hd, Hs⟩, Hv, HW⟩
  iapply ret_spec
  iapply HK
  isplitl [Hs Hr]
  · iapply (pointsTo_split_subset (q := fullShare) (f := fs) hSs).2
    isplitl [Hs]; · iexact Hs
    iexact Hr
  isplitl [Hd]; · iexact Hd
  isplitl [Hv]; · iexact Hv
  iexists _
  iexact HW

/-- Batch `b` of the alpha operand. -/
abbrev gA (c : Dev nD) (b : Fin 4) (f : S4x256x1x128x128.Idx → F .f32) : sProp 𝕄 := mA.view.loc (c : Thread nD τ) ↦[batA b]{fullShare} f
/-- Batch `b` of the colour operand. -/
abbrev gC (c : Dev nD) (b : Fin 4) (f : S4x256x3x128x128.Idx → F .f32) : sProp 𝕄 := mC.view.loc (c : Thread nD τ) ↦[batC b]{fullShare} f
/-- Slot `sl`'s two semaphores at zero. -/
def sems (c : Dev nD) (sl : Fin 3) : sProp 𝕄 :=
  iprop(semVal ((c : Thread nD τ), SemLoc.dma (semOf sl 0)) 0 ∗ semVal ((c : Thread nD τ), SemLoc.dma (semOf sl 1)) 0)
/-- Slot `sl`, whatever it holds, and its semaphores. -/
def slot (c : Dev nD) (sl : Fin 3) : sProp 𝕄 := iprop((∃ f, pA (F := F) c sl f) ∗ (∃ f, pC (F := F) c sl f) ∗ sems c sl)
/-- Slot `sl` with batch `b`'s last twenty strokes. -/
def slotFast (c : Dev nD) (I : Ins F) (b : Fin 4) (sl : Fin 3) : sProp 𝕄 :=
  iprop(∃ fA fC, ⌜HasA I b sl fA ∧ HasC I b sl fC⌝ ∗ pA c sl fA ∗ pC c sl fC ∗ sems c sl)
/-- Batch `b` of both operands. -/
def bat (c : Dev nD) (I : Ins F) (b : Fin 4) : sProp 𝕄 := iprop(gA c b I.A ∗ gC c b I.C)
/-- Batch `b`'s last twenty strokes on their way into slot `sl`. -/
def flyFast (c : Dev nD) (I : Ins F) (b : Fin 4) (sl : Fin 3) : sProp 𝕄 :=
  iprop((∃ f, Fly (F := F) c (sA20 b) (dA20 sl) (semOf sl 0) (batA b) (slotA sl) I.A f)
    ∗ (∃ f, Fly (F := F) c (sC20 b) (dC20 sl) (semOf sl 1) (batC b) (slotC sl) I.C f))

theorem startFast_spec {I : Ins F} {b : Fin 4} {sl : Fin 3} {Q : PUnit → sProp 𝕄} :
    iprop(bat c I b ∗ slot (F := F) c sl ∗ (flyFast c I b sl -∗ Q ⟨⟩)) ⊢ WP D c bd (startFast b sl) Q := by
  unfold startFast bat slot sems flyFast
  iintro ⟨⟨HA, HC⟩, ⟨⟨%fA, HSA⟩, ⟨%fC, HSC⟩, HvA, HvC⟩, HK⟩
  iapply bind_spec
  iapply (start_spec (src := sA20 b) (dst := dA20 sl) (Ss := batA b) (Sd := slotA sl) (fs := I.A) (fd := fA) (by decide) (sA20_set b) (dA20_set sl))
  isplitl [HA]; · iexact HA
  isplitl [HSA]; · iexact HSA
  isplitl [HvA]; · iexact HvA
  iintro HFA
  iapply (start_spec (src := sC20 b) (dst := dC20 sl) (Ss := batC b) (Sd := slotC sl) (fs := I.C) (fd := fC) (by decide) (sC20_set b) (dC20_set sl))
  isplitl [HC]; · iexact HC
  isplitl [HSC]; · iexact HSC
  isplitl [HvC]; · iexact HvC
  iintro HFC
  iapply HK
  isplitl [HFA]
  · iexists fA; iexact HFA
  · iexists fC; iexact HFC

theorem waitFast_spec {I : Ins F} {b : Fin 4} {sl : Fin 3} {Q : PUnit → sProp 𝕄} :
    iprop(flyFast c I b sl ∗ Owes c ∗ (bat c I b ∗ slotFast c I b sl ∗ Owes c -∗ Q ⟨⟩)) ⊢ WP D c bd (waitFast b sl) Q := by
  unfold waitFast bat slotFast sems flyFast
  iintro ⟨⟨⟨%fA, HFA⟩, ⟨%fC, HFC⟩⟩, HO, HK⟩
  iapply bind_spec
  iapply (wait_spec (h1 := (View.wordExact_bits rfl).reshape _ _) (h2 := (View.wordExact_bits rfl).reshape _ _) (src := sA20 b) (dst := dA20 sl) (Ss := batA b) (Sd := slotA sl) (fs := I.A) (fd := fA) (sA20_set b))
  isplitl [HFA]; · iexact HFA
  isplitl [HO]; · iexact HO
  iintro ⟨HA, HSA, HvA, HO⟩
  iapply (wait_spec (h1 := (View.wordExact_bits rfl).reshape _ _) (h2 := (View.wordExact_bits rfl).reshape _ _) (src := sC20 b) (dst := dC20 sl) (Ss := batC b) (Sd := slotC sl) (fs := I.C) (fd := fC) (sC20_set b))
  isplitl [HFC]; · iexact HFC
  isplitl [HO]; · iexact HO
  iintro ⟨HC, HSC, HvC, HO⟩
  iapply HK
  isplitl [HA HC]
  · isplitl [HA]; · iexact HA
    iexact HC
  isplitl [HSA HSC HvA HvC]
  · iexists ((dA20 sl).view.write (Elt F) fA ((sA20 b).view.read (Elt F) I.A) Finset.univ), ((dC20 sl).view.write (Elt F) fC ((sC20 b).view.read (Elt F) I.C) Finset.univ)
    isplitr
    · ipureintro
      refine ⟨fun n y x => ?_, fun n k y x => ?_⟩
      · exact (rdA20 _ sl n y x).symm.trans ((congrFun (View.read_write_univ _ _) _).trans (rsA20 I.A b n y x))
      · exact (rdC20 _ sl n k y x).symm.trans ((congrFun (View.read_write_univ _ _) _).trans (rsC20 I.C b n k y x))
    isplitl [HSA]; · iexact HSA
    isplitl [HSC]; · iexact HSC
    isplitl [HvA]; · iexact HvA
    iexact HvC
  iexact HO

/-- Slot `sl` starting with batch `b`'s strokes `first, …, first + 3`. -/
def slotFour (c : Dev nD) (I : Ins F) (b : Fin 4) (first : ℕ) (sl : Fin 3) : sProp 𝕄 :=
  iprop(∃ fA fC, ⌜HasA4 I b first sl fA ∧ HasC4 I b first sl fC⌝ ∗ pA c sl fA ∗ pC c sl fC ∗ sems c sl)

theorem chunk4_spec {I : Ins F} {b : Fin 4} {sl : Fin 3} {w : BitVec 32} {hA hC} (hw : w.toNat + 4 ≤ 256) {Q : PUnit → sProp 𝕄} :
    iprop(bat c I b ∗ slot (F := F) c sl ∗ Owes c ∗ (bat c I b ∗ slotFour c I b w.toNat sl ∗ Owes c -∗ Q ⟨⟩)) ⊢ WP D c bd (chunk4 sl (offB b w) hA hC) Q := by
  unfold chunk4 bat slot slotFour sems
  iintro ⟨⟨HA, HC⟩, ⟨⟨%fA, HSA⟩, ⟨%fC, HSC⟩, HvA, HvC⟩, HO, HK⟩
  iapply bind_spec
  iapply (start_spec (src := sA4 (offB b w) hA) (dst := dA4 sl) (Ss := batA b) (Sd := slotA sl) (fs := I.A) (fd := fA) (by decide) (sA4_set b w hA) (dA4_set sl))
  isplitl [HA]; · iexact HA
  isplitl [HSA]; · iexact HSA
  isplitl [HvA]; · iexact HvA
  iintro HFA
  iapply bind_spec
  iapply (start_spec (src := sC4 (offB b w) hC) (dst := dC4 sl) (Ss := batC b) (Sd := slotC sl) (fs := I.C) (fd := fC) (by decide) (sC4_set b w hC) (dC4_set sl))
  isplitl [HC]; · iexact HC
  isplitl [HSC]; · iexact HSC
  isplitl [HvC]; · iexact HvC
  iintro HFC
  iapply bind_spec
  iapply (wait_spec (h1 := (View.wordExact_bits rfl).reshape _ _) (h2 := (View.wordExact_bits rfl).reshape _ _) (src := sA4 (offB b w) hA) (dst := dA4 sl) (Ss := batA b) (Sd := slotA sl) (fs := I.A) (fd := fA) (sA4_set b w hA))
  isplitl [HFA]; · iexact HFA
  isplitl [HO]; · iexact HO
  iintro ⟨HA, HSA, HvA, HO⟩
  iapply (wait_spec (h1 := (View.wordExact_bits rfl).reshape _ _) (h2 := (View.wordExact_bits rfl).reshape _ _) (src := sC4 (offB b w) hC) (dst := dC4 sl) (Ss := batC b) (Sd := slotC sl) (fs := I.C) (fd := fC) (sC4_set b w hC))
  isplitl [HFC]; · iexact HFC
  isplitl [HO]; · iexact HO
  iintro ⟨HC, HSC, HvC, HO⟩
  iapply HK
  isplitl [HA HC]
  · isplitl [HA]; · iexact HA
    iexact HC
  isplitl [HSA HSC HvA HvC]
  · iexists ((dA4 sl).view.write (Elt F) fA ((sA4 (offB b w) hA).view.read (Elt F) I.A) Finset.univ), ((dC4 sl).view.write (Elt F) fC ((sC4 (offB b w) hC).view.read (Elt F) I.C) Finset.univ)
    isplitr
    · ipureintro
      have hn : ∀ q : Fin 4, (stroke (w.toNat + q.val)).val = w.toNat + q.val := fun q => Nat.mod_eq_of_lt (by have := q.2; omega)
      refine ⟨fun q y x => ?_, fun q k y x => ?_⟩
      · exact (rdA4 _ sl q y x).symm.trans ((congrFun (View.read_write_univ _ _) _).trans (rsA4 I.A b w hA q _ (hn q) y x))
      · exact (rdC4 _ sl q k y x).symm.trans ((congrFun (View.read_write_univ _ _) _).trans (rsC4 I.C b w hC q _ (hn q) k y x))
    isplitl [HSA]; · iexact HSA
    isplitl [HSC]; · iexact HSC
    isplitl [HvA]; · iexact HvA
    iexact HvC
  iexact HO

theorem slot_of_fast {I : Ins F} {b : Fin 4} {sl : Fin 3} : slotFast c I b sl ⊢ slot (F := F) c sl := by
  unfold slotFast slot
  iintro ⟨%fA, %fC, -, HA, HC, Hv⟩
  isplitl [HA]; · iexists fA; iexact HA
  isplitl [HC]; · iexists fC; iexact HC
  iexact Hv
theorem slot_of_four {I : Ins F} {b : Fin 4} {first : ℕ} {sl : Fin 3} : slotFour c I b first sl ⊢ slot (F := F) c sl := by
  unfold slotFour slot
  iintro ⟨%fA, %fC, -, HA, HC, Hv⟩
  isplitl [HA]; · iexists fA; iexact HA
  isplitl [HC]; · iexists fC; iexact HC
  iexact Hv

end Cert.Kernel.Hand
end
-- ==== Proof.Passes.lean ====
/-
  The two refill passes: each is a label that calls itself once per chunk, its rule by induction on the chunks left.
-/
module

public import proofs.«01_k».proof.Proof.Dma
public import Idealize.ShloMosaic.Lib.Scf

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {Λ : Labels} {D : Defs nD τ sig (Elt F) Λ}

local notation "𝕄" => MT nD τ sig Unit (Elt F) ℕ (Pipeline.UD sig nD τ) ℕ

variable {c : Dev nD} {bd : Option ℕ}

theorem guardS (i : Fin 60) (d : BitVec 1) :
    Scalar.andi (Scalar.xori d 1#1) (Scalar.cmpi .slt (BitVec.ofNat 32 i.val) 59#32) = 1#1 ↔ d ≠ 1#1 ∧ i.val < 59 := by
  revert d i; decide
theorem guardF (i : Fin 65) (d : BitVec 1) :
    Scalar.andi (Scalar.xori d 1#1) (Scalar.cmpi .slt (BitVec.ofNat 32 i.val) 64#32) = 1#1 ↔ d ≠ 1#1 ∧ i.val < 64 := by
  revert d i; decide
theorem nextS (i : Fin 64) : Scalar.addi (BitVec.ofNat 32 i.val) 1#32 = BitVec.ofNat 32 (i.val + 1) := by
  revert i; decide
theorem firstDown_val (i : Fin 59) : (firstDown (BitVec.ofNat 32 i.val)).toNat = (58 - i.val) * 4 := by
  revert i; decide
theorem firstUp_val (i : Fin 64) : (firstUp (BitVec.ofNat 32 i.val)).toNat = i.val * 4 := by
  revert i; decide
theorem offP_val (i : Fin 59) (t : Fin k0_t1_loop.trips) :
    (Scalar.indexCast (Scalar.addi (firstDown (BitVec.ofNat 32 i.val)) (Scalar.subi 3#32 (Scf.iv 0#32 1#32 t)))).toNat = (58 - i.val) * 4 + (3 - t.val) := by
  revert i t; decide
theorem qDown_val (t : Fin k0_t1_loop.trips) : (qDown t).val = 3 - t.val := by revert t; decide
theorem qUp_val (t : Fin k0_t1_loop.trips) : (qUp t).val = t.val := by revert t; decide
theorem trips_eq : k0_t1_loop.trips = 4 := by decide

theorem chkS_all (b : Fin 4) (i : Fin 59) : chkS b (BitVec.ofNat 32 i.val) := by
  have hi := i.2
  have hb := b.2
  have e := firstDown_val i
  refine ⟨fun a => ?_, fun a => ?_, fun t a => ?_, fun t a => ?_⟩
  · rw [offB, e]; fin_cases a <;> simp <;> omega
  · rw [offB, e]; fin_cases a <;> simp <;> omega
  · rw [offP, offP_val]; fin_cases a <;> simp <;> omega
  · rw [offP, offP_val]; fin_cases a <;> simp <;> omega
theorem chkF_all (b : Fin 4) (i : Fin 64) : chkF b (BitVec.ofNat 32 i.val) := by
  have hi := i.2
  have hb := b.2
  have e := firstUp_val i
  refine ⟨fun a => ?_, fun a => ?_⟩
  · rw [offB, e]; fin_cases a <;> simp <;> omega
  · rw [offB, e]; fin_cases a <;> simp <;> omega

theorem assume_spec {P : Prop} {d : Decidable P} (h : P) {Q : PLift P → sProp 𝕄} : Q ⟨h⟩ ⊢ WP D c bd (Prog.lift (TpuEff.assume P d)) Q :=
  ret_spec.trans (wp_assume Variants.nat (c : Thread nD τ) bd Set.univ h)

/-- What a refill pass holds. -/
def held (c : Dev nD) (I : Ins F) (b : Fin 4) (sl : Fin 3) (st : St F S128x128) : sProp 𝕄 :=
  iprop(acc c st ∗ bat c I b ∗ slot (F := F) c sl ∗ Owes c ∗ oP c I.P)

theorem slowTrip_spec {I : Ins F} {b : Fin 4} {sl : Fin 3} {i : Fin 59} {t : Fin k0_t1_loop.trips} {h2 h3} {fA fC} {st : St F S128x128}
    (hA : HasA4 I b ((58 - i.val) * 4) sl fA) (hC : HasC4 I b ((58 - i.val) * 4) sl fC) {Q : BitVec 32 → sProp 𝕄} :
    iprop(pA c sl fA ∗ pC c sl fC ∗ oP c I.P ∗ acc c st
        ∗ (pA c sl fA ∗ pC c sl fC ∗ oP c I.P ∗ acc c (I.stepV b (stroke ((58 - i.val) * 4 + 3 - t.val)) st) -∗ Q 0#32))
      ⊢ WP D c bd (trip sl (qDown t) takeV (densP (offP b (BitVec.ofNat 32 i.val) 2 t) (offP b (BitVec.ofNat 32 i.val) 3 t) h2 h3)) Q := by
  have ht : t.val < 4 := t.2
  have hi := i.2
  have hs : stroke ((58 - i.val) * 4 + (qDown t).val) = stroke ((58 - i.val) * 4 + 3 - t.val) := by rw [qDown_val]; congr 1; omega
  have hv : (stroke ((58 - i.val) * 4 + 3 - t.val)).val = (58 - i.val) * 4 + (3 - t.val) := by
    refine (Nat.mod_eq_of_lt (by omega)).trans (by omega)
  have ho : ∀ (k : Fin 8) (a : Fin 3), (ix3 b (stroke ((58 - i.val) * 4 + 3 - t.val)) k : S4x256x8.Idx) a = (offP b (BitVec.ofNat 32 i.val) k t a : ℕ) := by
    intro k a
    rw [offP, offP_val]
    fin_cases a
    · rfl
    · exact hv
    · rfl
  exact trip_spec (R := oP c I.P) (a := I.a b (stroke ((58 - i.val) * 4 + 3 - t.val)))
    (c0 := I.c b (stroke ((58 - i.val) * 4 + 3 - t.val)) 0) (c1 := I.c b (stroke ((58 - i.val) * 4 + 3 - t.val)) 1) (c2 := I.c b (stroke ((58 - i.val) * 4 + 3 - t.val)) 2)
    (dd := fun w => addf st.D (mulf w (broadcast S128x128 (I.p b (stroke ((58 - i.val) * 4 + 3 - t.val))))))
    (funext fun j => (hA _ _ _).trans (congrArg (fun n => I.a b n j) hs)) (funext fun j => (hC _ _ _ _).trans (congrArg (fun n => I.c b n 0 j) hs)) (funext fun j => (hC _ _ _ _).trans (congrArg (fun n => I.c b n 1 j) hs)) (funext fun j => (hC _ _ _ _).trans (congrArg (fun n => I.c b n 2 j) hs))
    (fun w Q => densP_spec (i2 := ix3 b (stroke ((58 - i.val) * 4 + 3 - t.val)) 2) (i3 := ix3 b (stroke ((58 - i.val) * 4 + 3 - t.val)) 3) (ho 2) (ho 3))

theorem fillTrip_spec {I : Ins F} {b : Fin 4} {sl : Fin 3} {i : Fin 64} {t : Fin k0_t1_loop.trips} {fA fC} {st : St F S128x128}
    (hA : HasA4 I b (i.val * 4) sl fA) (hC : HasC4 I b (i.val * 4) sl fC) {Q : BitVec 32 → sProp 𝕄} :
    iprop(pA c sl fA ∗ pC c sl fC ∗ emp ∗ acc c st
        ∗ (pA c sl fA ∗ pC c sl fC ∗ emp ∗ acc c (I.stepI b (stroke (i.val * 4 + t.val)) st) -∗ Q 0#32))
      ⊢ WP D c bd (trip sl (qUp t) takeI fun _ => pure ⟨⟩) Q := by
  have hs : stroke (i.val * 4 + (qUp t).val) = stroke (i.val * 4 + t.val) := by rw [qUp_val]
  exact trip_spec (R := iprop(emp)) (a := I.a b (stroke (i.val * 4 + t.val)))
    (c0 := I.c b (stroke (i.val * 4 + t.val)) 0) (c1 := I.c b (stroke (i.val * 4 + t.val)) 1) (c2 := I.c b (stroke (i.val * 4 + t.val)) 2)
    (dd := fun _ => st.D)
    (funext fun j => (hA _ _ _).trans (congrArg (fun n => I.a b n j) hs)) (funext fun j => (hC _ _ _ _).trans (congrArg (fun n => I.c b n 0 j) hs)) (funext fun j => (hC _ _ _ _).trans (congrArg (fun n => I.c b n 1 j) hs)) (funext fun j => (hC _ _ _ _).trans (congrArg (fun n => I.c b n 2 j) hs))
    (fun w Q => by
      iintro ⟨HD, HR, HK⟩
      iapply ret_spec
      iapply HK
      isplitl [HD]; · iexact HD
      iexact HR)

/-- The label `call` runs `body`, one level down. -/
def CallRule (D : Defs nD τ sig (Elt F) Λ) (c : Dev nD) (call body : BitVec 32 → BitVec 1 → K0 Λ F (BitVec 32 × BitVec 1)) : Prop :=
  ∀ (bd : Option ℕ) (v : ℕ), (∀ u ∈ bd, v < u) → ∀ (j : BitVec 32) (d : BitVec 1) (Q : BitVec 32 × BitVec 1 → sProp 𝕄),
    WP D c (some v) (body j d) Q ⊢ WP D c bd (call j d) Q

/-- The slow pass from chunk `i`. -/
theorem slow_spec {I : Ins F} {b : Fin 4} {sl : Fin 3} {chk dec hc} {call : BitVec 32 → BitVec 1 → K0 Λ F (BitVec 32 × BitVec 1)}
    (hk : ∀ i, chkS b i → chk i) (hcall : CallRule D c call (slowBody b sl chk dec hc call)) :
    ∀ (k i : ℕ), i + k = 59 → ∀ (bd : Option ℕ), (∀ u ∈ bd, k < u) → ∀ (d : BitVec 1) (st : St F S128x128) (Q : BitVec 32 × BitVec 1 → sProp 𝕄),
      iprop(held c I b sl st ∗ (∀ r, held c I b sl (I.slowFrom b k i d st) -∗ Q r)) ⊢ WP D c bd (call (BitVec.ofNat 32 i) d) Q := by
  intro k
  induction k with
  | zero =>
    intro i hik bd hbd d st Q
    refine .trans ?_ (hcall bd 0 hbd _ d Q)
    rw [show I.slowFrom b 0 i d st = st from rfl]
    unfold slowBody
    rw [if_neg (fun h => by have := ((guardS ⟨i, by omega⟩ d).mp h).2; simp at this; omega)]
    iintro ⟨H, HK⟩
    iapply ret_spec
    iapply HK $$ H
  | succ k ih =>
    intro i hik bd hbd d st Q
    refine .trans ?_ (hcall bd (k + 1) hbd _ d Q)
    unfold slowBody Ins.slowFrom
    by_cases hd : d = 1#1
    · rw [if_pos hd, if_neg (fun h => ((guardS ⟨i, by omega⟩ d).mp h).1 hd)]
      iintro ⟨H, HK⟩
      iapply ret_spec
      iapply HK $$ H
    rw [if_neg hd, if_pos ((guardS ⟨i, by omega⟩ d).mpr ⟨hd, by simp; omega⟩)]
    have hch := hk _ (chkS_all b ⟨i, by omega⟩)
    have hf := firstDown_val ⟨i, by omega⟩
    simp only at hf
    unfold held
    iintro ⟨⟨HAcc, HB, HS, HO, HP⟩, HK⟩
    iapply bind_spec
    iapply (assume_spec hch)
    iapply bind_spec
    iapply (chunk4_spec (w := firstDown (BitVec.ofNat 32 i)) (by rw [hf]; omega))
    isplitl [HB]; · iexact HB
    isplitl [HS]; · iexact HS
    isplitl [HO]; · iexact HO
    rw [hf]
    unfold slotFour
    iintro ⟨HB, ⟨%fA, %fC, %hAC, HA, HC, Hv⟩, HO⟩
    iapply bind_spec
    iapply (Scf.wp_for (frame (nD := nD) (τ := τ) (sig := sig) (Ix := Unit) (Val := Elt F) (Name := ℕ) (U := Pipeline.UD sig nD τ) (Lvl := ℕ)) (wpE D Variants.nat (c : Thread nD τ) (some (k + 1))) Set.univ
      (I := fun n _ => iprop(pA c sl fA ∗ pC c sl fC ∗ oP c I.P ∗ acc c (I.slowTrips b ((58 - i) * 4) n st)))
      (hbody := fun t w => by
        iintro ⟨HA, HC, HP, HAcc⟩
        iapply (slowTrip_spec (i := ⟨i, by omega⟩) hAC.1 hAC.2)
        isplitl [HA]; · iexact HA
        isplitl [HC]; · iexact HC
        isplitl [HP]; · iexact HP
        isplitl [HAcc]; · iexact HAcc
        iintro H
        iexact H))
    isplitl [HA HC HP HAcc]
    · isplitl [HA]; · iexact HA
      isplitl [HC]; · iexact HC
      isplitl [HP]; · iexact HP
      iexact HAcc
    iintro %w ⟨HA, HC, HP, HAcc⟩
    rw [show Scf.trips k0_t1_loop.lb k0_t1_loop.ub k0_t1_loop.st = 4 from trips_eq]
    unfold acc
    icases HAcc with ⟨HT, HN, HX, HD⟩
    iapply bind_spec
    iapply ldW_spec
    isplitl [HN]; · iexact HN
    iintro HN
    rw [nextS ⟨i, by omega⟩]
    iapply (ih (i + 1) (by omega) (some (k + 1)) (fun u hu => by cases hu; exact Nat.lt_succ_self k) _ (I.slowTrips b ((58 - i) * 4) 4 st) Q)
    isplitr [HK]
    · unfold held acc slot
      isplitl [HT HN HX HD]
      · isplitl [HT]; · iexact HT
        isplitl [HN]; · iexact HN
        isplitl [HX]; · iexact HX
        iexact HD
      isplitl [HB]; · iexact HB
      isplitl [HA HC Hv]
      · isplitl [HA]; · iexists fA; iexact HA
        isplitl [HC]; · iexists fC; iexact HC
        iexact Hv
      isplitl [HO]; · iexact HO
      iexact HP
    unfold held acc
    iexact HK

/-- The tie-filling pass from chunk `i`. -/
theorem fill_spec {I : Ins F} {b : Fin 4} {sl : Fin 3} {chk dec hc} {call : BitVec 32 → BitVec 1 → K0 Λ F (BitVec 32 × BitVec 1)}
    (hk : ∀ i, chkF b i → chk i) (hcall : CallRule D c call (fillBody b sl chk dec hc call)) :
    ∀ (k i : ℕ), i + k = 64 → ∀ (bd : Option ℕ), (∀ u ∈ bd, k < u) → ∀ (d : BitVec 1) (st : St F S128x128) (Q : BitVec 32 × BitVec 1 → sProp 𝕄),
      iprop(held c I b sl st ∗ (∀ r, held c I b sl (I.fillFrom b k i d st) -∗ Q r)) ⊢ WP D c bd (call (BitVec.ofNat 32 i) d) Q := by
  intro k
  induction k with
  | zero =>
    intro i hik bd hbd d st Q
    refine .trans ?_ (hcall bd 0 hbd _ d Q)
    rw [show I.fillFrom b 0 i d st = st from rfl]
    unfold fillBody
    rw [if_neg (fun h => by have := ((guardF ⟨i, by omega⟩ d).mp h).2; simp at this; omega)]
    iintro ⟨H, HK⟩
    iapply ret_spec
    iapply HK $$ H
  | succ k ih =>
    intro i hik bd hbd d st Q
    refine .trans ?_ (hcall bd (k + 1) hbd _ d Q)
    unfold fillBody Ins.fillFrom
    by_cases hd : d = 1#1
    · rw [if_pos hd, if_neg (fun h => ((guardF ⟨i, by omega⟩ d).mp h).1 hd)]
      iintro ⟨H, HK⟩
      iapply ret_spec
      iapply HK $$ H
    rw [if_neg hd, if_pos ((guardF ⟨i, by omega⟩ d).mpr ⟨hd, by simp; omega⟩)]
    have hch := hk _ (chkF_all b ⟨i, by omega⟩)
    have hf := firstUp_val ⟨i, by omega⟩
    simp only at hf
    unfold held
    iintro ⟨⟨HAcc, HB, HS, HO, HP⟩, HK⟩
    iapply bind_spec
    iapply (assume_spec hch)
    iapply bind_spec
    iapply (chunk4_spec (w := firstUp (BitVec.ofNat 32 i)) (by rw [hf]; omega))
    isplitl [HB]; · iexact HB
    isplitl [HS]; · iexact HS
    isplitl [HO]; · iexact HO
    rw [hf]
    unfold slotFour
    iintro ⟨HB, ⟨%fA, %fC, %hAC, HA, HC, Hv⟩, HO⟩
    iapply bind_spec
    iapply (Scf.wp_for (frame (nD := nD) (τ := τ) (sig := sig) (Ix := Unit) (Val := Elt F) (Name := ℕ) (U := Pipeline.UD sig nD τ) (Lvl := ℕ)) (wpE D Variants.nat (c : Thread nD τ) (some (k + 1))) Set.univ
      (I := fun n _ => iprop(pA c sl fA ∗ pC c sl fC ∗ emp ∗ acc c (I.fillTrips b (i * 4) n st)))
      (hbody := fun t w => by
        iintro ⟨HA, HC, HE, HAcc⟩
        iapply (fillTrip_spec (i := ⟨i, by omega⟩) hAC.1 hAC.2)
        isplitl [HA]; · iexact HA
        isplitl [HC]; · iexact HC
        isplitl [HE]; · iexact HE
        isplitl [HAcc]; · iexact HAcc
        iintro H
        iexact H))
    isplitl [HA HC HAcc]
    · isplitl [HA]; · iexact HA
      isplitl [HC]; · iexact HC
      isplitr; · iempintro
      iexact HAcc
    iintro %w ⟨HA, HC, -, HAcc⟩
    rw [show Scf.trips k0_t1_loop.lb k0_t1_loop.ub k0_t1_loop.st = 4 from trips_eq]
    unfold acc
    icases HAcc with ⟨HT, HN, HX, HD⟩
    iapply bind_spec
    iapply ldW_spec
    isplitl [HN]; · iexact HN
    iintro HN
    rw [nextS ⟨i, by omega⟩]
    iapply (ih (i + 1) (by omega) (some (k + 1)) (fun u hu => by cases hu; exact Nat.lt_succ_self k) _ (I.fillTrips b (i * 4) 4 st) Q)
    isplitr [HK]
    · unfold held acc slot
      isplitl [HT HN HX HD]
      · isplitl [HT]; · iexact HT
        isplitl [HN]; · iexact HN
        isplitl [HX]; · iexact HX
        iexact HD
      isplitl [HB]; · iexact HB
      isplitl [HA HC Hv]
      · isplitl [HA]; · iexists fA; iexact HA
        isplitl [HC]; · iexists fC; iexact HC
        iexact Hv
      isplitl [HO]; · iexact HO
      iexact HP
    unfold held acc
    iexact HK

end Cert.Kernel.Hand
end
-- ==== Proof.Body.lean ====
/-
  The kernel's body: every batch's results, from the launch operands.
-/
module

public import proofs.«01_k».proof.Proof.Passes

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {Λ : Labels} {D : Defs nD τ sig (Elt F) Λ}

local notation "𝕄" => MT nD τ sig Unit (Elt F) ℕ (Pipeline.UD sig nD τ) ℕ

variable {c : Dev nD} {bd : Option ℕ}

/-- A call returns what its body returns, one level down. -/
theorem call_spec {ℓ : Λ.Label} {a : Λ.Args ℓ} {body : K0 Λ F (Λ.Result ℓ)} (h : D .tc ℓ a = body) {v : ℕ} (hv : ∀ u ∈ bd, v < u)
    {Q : Λ.Result ℓ → sProp 𝕄} : WP D c (some v) body Q ⊢ WP D c bd (Prog.lift (.call ℓ a)) Q := by
  subst h
  refine .trans ?_ (wp_call Variants.nat (c : Thread nD τ) bd Set.univ v hv)
  exact wp_mono _ _ _ fun x => ret_spec

/-- Each batch's slow pass is its call's body. -/
structure SlowRules (D : Defs nD τ sig (Elt F) Λ) (c : Dev nD) (slow : Fin 4 → BitVec 32 → BitVec 1 → K0 Λ F (BitVec 32 × BitVec 1)) : Prop where
  r0 : CallRule D c (slow 0) (slowBody 0 0 k0_chk1 k0_chk1.dec (fun _ h => h) (slow 0))
  r1 : CallRule D c (slow 1) (slowBody 1 1 k0_chk3 k0_chk3.dec (fun _ h => h) (slow 1))
  r2 : CallRule D c (slow 2) (slowBody 2 2 k0_chk5 k0_chk5.dec (fun _ h => h) (slow 2))
  r3 : CallRule D c (slow 3) (slowBody 3 0 k0_chk7 k0_chk7.dec (fun _ h => h) (slow 3))

/-- Each batch's tie-filling pass is its call's body. -/
structure FillRules (D : Defs nD τ sig (Elt F) Λ) (c : Dev nD) (fill : Fin 4 → BitVec 32 → BitVec 1 → K0 Λ F (BitVec 32 × BitVec 1)) : Prop where
  r0 : CallRule D c (fill 0) (fillBody 0 0 k0_chk2 k0_chk2.dec (fun _ h => h) (fill 0))
  r1 : CallRule D c (fill 1) (fillBody 1 1 k0_chk4 k0_chk4.dec (fun _ h => h) (fill 1))
  r2 : CallRule D c (fill 2) (fillBody 2 2 k0_chk6 k0_chk6.dec (fun _ h => h) (fill 2))
  r3 : CallRule D c (fill 3) (fillBody 3 0 k0_chk8 k0_chk8.dec (fun _ h => h) (fill 3))

/-- The accumulators, whatever they hold. -/
def scratch (c : Dev nD) : sProp 𝕄 :=
  iprop((∃ d, owns (c : Thread nD τ) bT fullShare d) ∗ (∃ d, owns (c : Thread nD τ) bN fullShare d)
    ∗ (∃ d, owns (c : Thread nD τ) bX fullShare d) ∗ (∃ d, owns (c : Thread nD τ) bD fullShare d))

theorem scratch_of_acc {st : St F S128x128} : acc c st ⊢ scratch (F := F) c := by
  unfold acc scratch
  iintro ⟨HT, HN, HX, HD⟩
  isplitl [HT]; · iexists st.T; iexact HT
  isplitl [HN]; · iexists st.N; iexact HN
  isplitl [HX]; · iexists (xOf st.X0 st.X1 st.X2); iexact HX
  iexists st.D; iexact HD

/-- A batch. -/
theorem batch_spec {I : Ins F} {b : Fin 4} {sl : Fin 3} {slow fill : BitVec 32 → BitVec 1 → K0 Λ F (BitVec 32 × BitVec 1)} {chk dec hc chk' dec' hc'}
    (hk : ∀ i, chkS b i → chk i) (hslow : CallRule D c slow (slowBody b sl chk dec hc slow))
    (hk' : ∀ i, chkF b i → chk' i) (hfill : CallRule D c fill (fillBody b sl chk' dec' hc' fill))
    {dO : S4x3x128x128.Idx → F .f32} {dN : S4x1x128x128.Idx → F .f32} {Q : PUnit → sProp 𝕄} :
    iprop(bat c I b ∗ slotFast c I b sl ∗ Owes c ∗ oP c I.P ∗ scratch (F := F) c ∗ owns (c : Thread nD τ) mO fullShare dO ∗ owns (c : Thread nD τ) mN fullShare dN
      ∗ (bat c I b ∗ slot (F := F) c sl ∗ Owes c ∗ oP c I.P ∗ scratch (F := F) c
        ∗ owns (c : Thread nD τ) mO fullShare (outO b dO (I.stFill b)) ∗ owns (c : Thread nD τ) mN fullShare (setN b dN (addf (I.stFill b).D (I.stFill b).T)) -∗ Q ⟨⟩))
      ⊢ WP D c none (batch b sl slow fill) Q := by
  unfold batch slotFast scratch
  iintro ⟨HB, ⟨%fA, %fC, %hAC, HA, HC, Hv⟩, HW, HP, ⟨⟨%dT, HT⟩, ⟨%dM, HM⟩, ⟨%dX, HX⟩, ⟨%dD, HD⟩⟩, HO, HN, HK⟩
  iapply bind_spec
  iapply (half_spec hAC.1 hAC.2)
  isplitl [HA]; · iexact HA
  isplitl [HC]; · iexact HC
  isplitl [HP]; · iexact HP
  isplitl [HT]; · iexact HT
  isplitl [HM]; · iexact HM
  isplitl [HX]; · iexact HX
  isplitl [HD]; · iexact HD
  iintro ⟨HA, HC, HP, HT, HM, HX, HD⟩
  iapply bind_spec
  iapply (half_spec hAC.1 hAC.2)
  isplitl [HA]; · iexact HA
  isplitl [HC]; · iexact HC
  isplitl [HP]; · iexact HP
  isplitl [HT]; · iexact HT
  isplitl [HM]; · iexact HM
  isplitl [HX]; · iexact HX
  isplitl [HD]; · iexact HD
  rw [mixH_both, mixH_both, mixH_both, mixX_all]
  iintro ⟨HA, HC, HP, HT, HM, HX, HD⟩
  iapply bind_spec
  iapply (slow_spec (I := I) hk hslow 59 0 rfl none (fun u hu => nomatch hu) _ (I.stFast b))
  isplitl [HB HA HC HP HW Hv HT HM HX HD]
  · unfold held acc slot
    isplitl [HT HM HX HD]
    · isplitl [HT]; · iexact HT
      isplitl [HM]; · iexact HM
      isplitl [HX]; · iexact HX
      iexact HD
    isplitl [HB]; · iexact HB
    isplitl [HA HC Hv]
    · isplitl [HA]; · iexists fA; iexact HA
      isplitl [HC]; · iexists fC; iexact HC
      iexact Hv
    isplitl [HW]; · iexact HW
    iexact HP
  rw [show I.slowFrom b 59 0 (doneOf2 (rowsV 0 (I.stFast b).N) (rowsV 1 (I.stFast b).N)) (I.stFast b) = I.stSlow b from rfl]
  iintro %r H
  unfold held
  icases H with ⟨HAcc, HB, HS, HW, HP⟩
  unfold acc
  icases HAcc with ⟨HT, HM, HX, HD⟩
  iapply bind_spec
  iapply ldW_spec
  isplitl [HM]; · iexact HM
  iintro HM
  iapply bind_spec
  iapply (fill_spec (I := I) hk' hfill 64 0 rfl none (fun u hu => nomatch hu) _ (I.stSlow b))
  isplitl [HB HS HP HW HT HM HX HD]
  · unfold held acc
    isplitl [HT HM HX HD]
    · isplitl [HT]; · iexact HT
      isplitl [HM]; · iexact HM
      isplitl [HX]; · iexact HX
      iexact HD
    isplitl [HB]; · iexact HB
    isplitl [HS]; · iexact HS
    isplitl [HW]; · iexact HW
    iexact HP
  rw [show I.fillFrom b 64 0 (doneOf (I.stSlow b).N) (I.stSlow b) = I.stFill b from rfl]
  iintro %r' H
  unfold held
  icases H with ⟨HAcc, HB, HS, HW, HP⟩
  iapply batchOut_spec
  isplitl [HAcc]; · iexact HAcc
  isplitl [HO]; · iexact HO
  isplitl [HN]; · iexact HN
  iintro ⟨HAcc, HO, HN⟩
  iapply HK
  isplitl [HB]; · iexact HB
  isplitl [HS]; · iexact HS
  isplitl [HW]; · iexact HW
  isplitl [HP]; · iexact HP
  isplitl [HAcc]
  · ihave H := scratch_of_acc $$ HAcc
    unfold scratch
    iexact H
  isplitl [HO]; · iexact HO
  iexact HN

theorem canvas_eq (I : Ins F) (d : S4x3x128x128.Idx → F .f32) :
    outO 3 (outO 2 (outO 1 (outO 0 d (I.stFill 0)) (I.stFill 1)) (I.stFill 2)) (I.stFill 3) = I.canvas := by
  funext i
  unfold outO setO Ins.canvas
  generalize i 0 = b, i 1 = k
  fin_cases b <;> fin_cases k <;> simp
theorem dens_eq (I : Ins F) (d : S4x1x128x128.Idx → F .f32) :
    setN 3 (setN 2 (setN 1 (setN 0 d (addf (I.stFill 0).D (I.stFill 0).T)) (addf (I.stFill 1).D (I.stFill 1).T)) (addf (I.stFill 2).D (I.stFill 2).T)) (addf (I.stFill 3).D (I.stFill 3).T) = I.dens := by
  funext i
  unfold setN Ins.dens
  generalize i 0 = b
  fin_cases b <;> simp

/-- The body: the operands and the parameters read, the canvas and the density map written. -/
theorem bodyT_spec {I : Ins F} {slow fill : Fin 4 → BitVec 32 → BitVec 1 → K0 Λ F (BitVec 32 × BitVec 1)} (hS : SlowRules D c slow) (hF : FillRules D c fill)
     {dO : S4x3x128x128.Idx → F .f32} {dN : S4x1x128x128.Idx → F .f32} {Q : PUnit → sProp 𝕄} :
    iprop((bat c I 0 ∗ bat c I 1 ∗ bat c I 2 ∗ bat c I 3) ∗ (slot (F := F) c 0 ∗ slot (F := F) c 1 ∗ slot (F := F) c 2) ∗ Owes c ∗ oP c I.P ∗ scratch (F := F) c
      ∗ owns (c : Thread nD τ) mO fullShare dO ∗ owns (c : Thread nD τ) mN fullShare dN
      ∗ ((bat c I 0 ∗ bat c I 1 ∗ bat c I 2 ∗ bat c I 3) ∗ (slot (F := F) c 0 ∗ slot (F := F) c 1 ∗ slot (F := F) c 2) ∗ Owes c ∗ oP c I.P ∗ scratch (F := F) c
        ∗ owns (c : Thread nD τ) mO fullShare I.canvas ∗ owns (c : Thread nD τ) mN fullShare I.dens -∗ Q ⟨⟩))
      ⊢ WP D c none (bodyT slow fill) Q := by
  rw [← canvas_eq I dO, ← dens_eq I dN]
  unfold bodyT
  iintro ⟨⟨HB0, HB1, HB2, HB3⟩, ⟨HS0, HS1, HS2⟩, HW, HP, HX, HO, HN, HK⟩
  iapply bind_spec
  iapply startFast_spec
  isplitl [HB0]; · iexact HB0
  isplitl [HS0]; · iexact HS0
  iintro HF0
  iapply bind_spec
  iapply startFast_spec
  isplitl [HB1]; · iexact HB1
  isplitl [HS1]; · iexact HS1
  iintro HF1
  iapply bind_spec
  iapply startFast_spec
  isplitl [HB2]; · iexact HB2
  isplitl [HS2]; · iexact HS2
  iintro HF2
  iapply bind_spec
  iapply waitFast_spec
  isplitl [HF0]; · iexact HF0
  isplitl [HW]; · iexact HW
  iintro ⟨HB0, HS0, HW⟩
  iapply bind_spec
  iapply (batch_spec (I := I) (fun _ h => h) (hS.r0) (fun _ h => h) (hF.r0))
  isplitl [HB0]; · iexact HB0
  isplitl [HS0]; · iexact HS0
  isplitl [HW]; · iexact HW
  isplitl [HP]; · iexact HP
  isplitl [HX]; · iexact HX
  isplitl [HO]; · iexact HO
  isplitl [HN]; · iexact HN
  iintro ⟨HB0, HS0, HW, HP, HX, HO, HN⟩
  iapply bind_spec
  iapply startFast_spec
  isplitl [HB3]; · iexact HB3
  isplitl [HS0]; · iexact HS0
  iintro HF3
  iapply bind_spec
  iapply waitFast_spec
  isplitl [HF1]; · iexact HF1
  isplitl [HW]; · iexact HW
  iintro ⟨HB1, HS1, HW⟩
  iapply bind_spec
  iapply (batch_spec (I := I) (fun _ h => h) (hS.r1) (fun _ h => h) (hF.r1))
  isplitl [HB1]; · iexact HB1
  isplitl [HS1]; · iexact HS1
  isplitl [HW]; · iexact HW
  isplitl [HP]; · iexact HP
  isplitl [HX]; · iexact HX
  isplitl [HO]; · iexact HO
  isplitl [HN]; · iexact HN
  iintro ⟨HB1, HS1, HW, HP, HX, HO, HN⟩
  iapply bind_spec
  iapply waitFast_spec
  isplitl [HF2]; · iexact HF2
  isplitl [HW]; · iexact HW
  iintro ⟨HB2, HS2, HW⟩
  iapply bind_spec
  iapply (batch_spec (I := I) (fun _ h => h) (hS.r2) (fun _ h => h) (hF.r2))
  isplitl [HB2]; · iexact HB2
  isplitl [HS2]; · iexact HS2
  isplitl [HW]; · iexact HW
  isplitl [HP]; · iexact HP
  isplitl [HX]; · iexact HX
  isplitl [HO]; · iexact HO
  isplitl [HN]; · iexact HN
  iintro ⟨HB2, HS2, HW, HP, HX, HO, HN⟩
  iapply bind_spec
  iapply waitFast_spec
  isplitl [HF3]; · iexact HF3
  isplitl [HW]; · iexact HW
  iintro ⟨HB3, HS0, HW⟩
  iapply (batch_spec (I := I) (fun _ h => h) (hS.r3) (fun _ h => h) (hF.r3))
  isplitl [HB3]; · iexact HB3
  isplitl [HS0]; · iexact HS0
  isplitl [HW]; · iexact HW
  isplitl [HP]; · iexact HP
  isplitl [HX]; · iexact HX
  isplitl [HO]; · iexact HO
  isplitl [HN]; · iexact HN
  iintro ⟨HB3, HS0, HW, HP, HX, HO, HN⟩
  iapply HK
  isplitl [HB0 HB1 HB2 HB3]
  · isplitl [HB0]; · iexact HB0
    isplitl [HB1]; · iexact HB1
    isplitl [HB2]; · iexact HB2
    iexact HB3
  isplitl [HS0 HS1 HS2]
  · isplitl [HS0]; · iexact HS0
    isplitl [HS1]; · iexact HS1
    iexact HS2
  isplitl [HW]; · iexact HW
  isplitl [HP]; · iexact HP
  isplitl [HX]; · iexact HX
  isplitl [HO]; · iexact HO
  iexact HN

end Cert.Kernel.Hand
end
-- ==== Proof.Split.lean ====
/-
  The launch's resources and the body's: the ring buffers cut into slots, the operands in HBM into batches.
-/
module

public import proofs.«01_k».proof.Proof.Body
public import proofs.«01_k».proof.Proof.Gen.Kernel.Launch
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

variable {c : Dev nD} {bd : Option ℕ}

/-! ## Slots and batches -/

/-- A buffer held whole is held on disjoint parts that cover it. -/
theorem split_parts {ℓ : Loc nD τ sig} {n : ℕ} (K : Fin n → Finset (Idx ℓ)) (p : Idx ℓ → ℕ) (hp : ∀ i, p i < n)
    (hK : ∀ t i, i ∈ K t ↔ p i = t.val) (f : Buf (Elt F) ℓ) :
    ((ℓ ↦{fullShare} f) : sProp 𝕄) = bigSep Finset.univ fun t => ℓ ↦[K t]{fullShare} f := by
  rw [← pointsTo_biUnion Finset.univ K fun t _ t' _ h => Finset.disjoint_left.2 fun i h1 h2 =>
    h (Fin.ext (((hK t i).1 h1).symm.trans ((hK t' i).1 h2)))]
  rw [show Finset.univ.biUnion K = Finset.univ from Finset.eq_univ_iff_forall.2 fun i =>
    Finset.mem_biUnion.2 ⟨⟨p i, hp i⟩, Finset.mem_univ _, (hK _ i).2 rfl⟩]

/-- Disjoint parts that cover a buffer, each held at contents of its own, are the buffer held whole. -/
theorem join_parts {ℓ : Loc nD τ sig} {n : ℕ} (K : Fin n → Finset (Idx ℓ)) (p : Idx ℓ → ℕ) (hp : ∀ i, p i < n)
    (hK : ∀ t i, i ∈ K t ↔ p i = t.val) (fs : Fin n → Buf (Elt F) ℓ) (f₀ : Buf (Elt F) ℓ) :
    (bigSep Finset.univ fun t => ℓ ↦[K t]{fullShare} fs t) ⊢ (iprop(∃ g, ℓ ↦{fullShare} g) : sProp 𝕄) := by
  iintro H
  ihave H := (pointsTo_biUnion_join Finset.univ K fs f₀ fun t _ t' _ h => Finset.disjoint_left.2 fun i h1 h2 =>
    h (Fin.ext (((hK t i).1 h1).symm.trans ((hK t' i).1 h2)))) $$ H
  icases H with ⟨%g, -, H⟩
  rw [show Finset.univ.biUnion K = Finset.univ from Finset.eq_univ_iff_forall.2 fun i =>
    Finset.mem_biUnion.2 ⟨⟨p i, hp i⟩, Finset.mem_univ _, (hK _ i).2 rfl⟩]
  iexists g; iexact H

theorem slotsA_split (f : S3x20x1x128x128.Idx → F .f32) :
    ((((c : Thread nD τ).loc cc0_scratch0) ↦{fullShare} f) : sProp 𝕄) = iprop(pA c 0 f ∗ pA c 1 f ∗ pA c 2 f) :=
  (split_parts (ℓ := (c : Thread nD τ).loc cc0_scratch0) slotA (fun i => (i 0).val) (fun i => (i 0).isLt) (fun t i => by simp [slotA]) f).trans
    (bigSep_univ_eq_bigSepL [(0 : Fin 3), 1, 2] (by decide) (by decide) _)

theorem slotsC_split (f : S3x20x3x128x128.Idx → F .f32) :
    ((((c : Thread nD τ).loc cc0_scratch1) ↦{fullShare} f) : sProp 𝕄) = iprop(pC c 0 f ∗ pC c 1 f ∗ pC c 2 f) :=
  (split_parts (ℓ := (c : Thread nD τ).loc cc0_scratch1) slotC (fun i => (i 0).val) (fun i => (i 0).isLt) (fun t i => by simp [slotC]) f).trans
    (bigSep_univ_eq_bigSepL [(0 : Fin 3), 1, 2] (by decide) (by decide) _)

theorem slotsA_join (fs : Fin 3 → S3x20x1x128x128.Idx → F .f32) :
    iprop(pA c 0 (fs 0) ∗ pA c 1 (fs 1) ∗ pA c 2 (fs 2))
      ⊢ (iprop(∃ g : Buf (Elt F) ((c : Thread nD τ).loc cc0_scratch0), ((c : Thread nD τ).loc cc0_scratch0) ↦{fullShare} g) : sProp 𝕄) :=
  (Entails.of_eq (bigSep_univ_eq_bigSepL [(0 : Fin 3), 1, 2] (by decide) (by decide) (fun t => pA c t (fs t))).symm).trans
    (join_parts (ℓ := (c : Thread nD τ).loc cc0_scratch0) slotA (fun i => (i 0).val) (fun i => (i 0).isLt) (fun t i => by simp [slotA]) fs (fs 0))

theorem slotsC_join (fs : Fin 3 → S3x20x3x128x128.Idx → F .f32) :
    iprop(pC c 0 (fs 0) ∗ pC c 1 (fs 1) ∗ pC c 2 (fs 2))
      ⊢ (iprop(∃ g : Buf (Elt F) ((c : Thread nD τ).loc cc0_scratch1), ((c : Thread nD τ).loc cc0_scratch1) ↦{fullShare} g) : sProp 𝕄) :=
  (Entails.of_eq (bigSep_univ_eq_bigSepL [(0 : Fin 3), 1, 2] (by decide) (by decide) (fun t => pC c t (fs t))).symm).trans
    (join_parts (ℓ := (c : Thread nD τ).loc cc0_scratch1) slotC (fun i => (i 0).val) (fun i => (i 0).isLt) (fun t i => by simp [slotC]) fs (fs 0))

theorem batsA_split (f : S4x256x1x128x128.Idx → F .f32) :
    ((((c : Thread nD τ).loc main_arg1) ↦{fullShare} f) : sProp 𝕄) = iprop(gA c 0 f ∗ gA c 1 f ∗ gA c 2 f ∗ gA c 3 f) :=
  (split_parts (ℓ := (c : Thread nD τ).loc main_arg1) batA (fun i => (i 0).val) (fun i => (i 0).isLt) (fun t i => by simp [batA]) f).trans
    (bigSep_univ_eq_bigSepL [(0 : Fin 4), 1, 2, 3] (by decide) (by decide) _)

theorem batsC_split (f : S4x256x3x128x128.Idx → F .f32) :
    ((((c : Thread nD τ).loc main_arg0) ↦{fullShare} f) : sProp 𝕄) = iprop(gC c 0 f ∗ gC c 1 f ∗ gC c 2 f ∗ gC c 3 f) :=
  (split_parts (ℓ := (c : Thread nD τ).loc main_arg0) batC (fun i => (i 0).val) (fun i => (i 0).isLt) (fun t i => by simp [batC]) f).trans
    (bigSep_univ_eq_bigSepL [(0 : Fin 4), 1, 2, 3] (by decide) (by decide) _)

/-! ## The launch's set-up -/

variable (m : (ℓ : Loc nD τ sig) → Buf (Elt F) ℓ) (ρ : Dev nD → PrngReg)

/-- What the region finds in each buffer: what the launch put there. -/
abbrev V (c : Dev nD) (b : Ref sig .tc) : Buf (Elt F) ((c : Thread nD τ).loc b) := m ((c : Thread nD τ).loc b)

/-- The body's own semaphores: two for each slot. -/
abbrev osem0 : Fin 6 → SemLoc sig := fun j =>
  (![SemLoc.dma 3, SemLoc.dma 4, SemLoc.dma 5, SemLoc.dma 6, SemLoc.dma 7, SemLoc.dma 8] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semOf 0 0)) 0 ∗ semVal ((c : Thread nD τ), SemLoc.dma (semOf 0 1)) 0
          ∗ semVal ((c : Thread nD τ), SemLoc.dma (semOf 1 0)) 0 ∗ semVal ((c : Thread nD τ), SemLoc.dma (semOf 1 1)) 0
          ∗ semVal ((c : Thread nD τ), SemLoc.dma (semOf 2 0)) 0 ∗ semVal ((c : Thread nD τ), SemLoc.dma (semOf 2 1)) 0) := by
  rw [Pipeline.ownSems0_eq_of_list c osem0 [0, 1, 2, 3, 4, 5] (by decide) (by decide)]; rfl
/-- The operands in HBM that the body reads by transfers of its own. -/
def H0 : Finset (Ref sig .tc) := {main_arg0, main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1)) := by
  rw [BI.bigSep_eq_bigSepL_of_eq [main_arg0, main_arg1] (by decide) (by decide)]; rfl

/-- The launch's operands. -/
def ins (c : Dev nD) : Ins F := ⟨V m c main_arg1, V m c main_arg0, V m c main_arg2⟩

/-- What the region holds beside the windows is what the body works on. -/
theorem phi_in (c : Dev nD) :
    (Pipeline.ΦD osem0 spec0 H0 (V m) c : sProp 𝕄)
      ⊢ iprop((bat c (ins m c) 0 ∗ bat c (ins m c) 1 ∗ bat c (ins m c) 2 ∗ bat c (ins m c) 3)
        ∗ (slot (F := F) c 0 ∗ slot (F := F) c 1 ∗ slot (F := F) c 2) ∗ scratch (F := F) c ∗ (∃ r, prngReg (c : Thread nD τ).1 r)) := by
  rw [Pipeline.ΦD_eq, scopedRest0_eq, ownSems00_eq, hbmPts0_eq]
  unfold slot bat sems scratch
  simp only [owns_whole]
  rw [batsA_split, batsC_split]
  iintro ⟨⟨⟨%fA, HA⟩, ⟨%fC, HC⟩, HT, HX, HD, HN⟩, Hg, ⟨Hq0, Hq1, Hq2, Hq3, Hq4, Hq5⟩, ⟨HC0, HC1, HC2, HC3⟩, HA0, HA1, HA2, HA3⟩
  ihave HA := (Entails.of_eq (slotsA_split (c := c) fA)) $$ HA
  icases HA with ⟨HS0, HS1, HS2⟩
  ihave HC := (Entails.of_eq (slotsC_split (c := c) fC)) $$ HC
  icases HC with ⟨HR0, HR1, HR2⟩
  isplitl [HA0 HA1 HA2 HA3 HC0 HC1 HC2 HC3]
  · isplitl [HA0 HC0]
    · isplitl [HA0]; · iexact HA0
      iexact HC0
    isplitl [HA1 HC1]
    · isplitl [HA1]; · iexact HA1
      iexact HC1
    isplitl [HA2 HC2]
    · isplitl [HA2]; · iexact HA2
      iexact HC2
    isplitl [HA3]; · iexact HA3
    iexact HC3
  isplitl [HS0 HS1 HS2 HR0 HR1 HR2 Hq0 Hq1 Hq2 Hq3 Hq4 Hq5]
  · isplitl [HS0 HR0 Hq0 Hq1]
    · isplitl [HS0]; · iexists _; iexact HS0
      isplitl [HR0]; · iexists _; iexact HR0
      isplitl [Hq0] <;> iassumption
    isplitl [HS1 HR1 Hq2 Hq3]
    · isplitl [HS1]; · iexists _; iexact HS1
      isplitl [HR1]; · iexists _; iexact HR1
      isplitl [Hq2] <;> iassumption
    isplitl [HS2]; · iexists _; iexact HS2
    isplitl [HR2]; · iexists _; iexact HR2
    isplitl [Hq4] <;> iassumption
  isplitl [HT HX HD HN]
  · isplitl [HT]; · iexact HT
    isplitl [HN]; · iexact HN
    isplitl [HX]; · iexact HX
    iexact HD
  iexact Hg

/-- And what the body leaves is what the region holds beside the windows. -/
theorem phi_out (c : Dev nD) :
    iprop((bat c (ins m c) 0 ∗ bat c (ins m c) 1 ∗ bat c (ins m c) 2 ∗ bat c (ins m c) 3)
        ∗ (slot (F := F) c 0 ∗ slot (F := F) c 1 ∗ slot (F := F) c 2) ∗ scratch (F := F) c ∗ (∃ r, prngReg (c : Thread nD τ).1 r))
      ⊢ (Pipeline.ΦD osem0 spec0 H0 (V m) c : sProp 𝕄) := by
  rw [Pipeline.ΦD_eq, scopedRest0_eq, ownSems00_eq, hbmPts0_eq]
  unfold slot bat sems scratch
  simp only [owns_whole]
  rw [batsA_split, batsC_split]
  iintro ⟨⟨⟨HA0, HC0⟩, ⟨HA1, HC1⟩, ⟨HA2, HC2⟩, HA3, HC3⟩, ⟨⟨⟨%f0, HS0⟩, ⟨%g0, HR0⟩, Hq0, Hq1⟩, ⟨⟨%f1, HS1⟩, ⟨%g1, HR1⟩, Hq2, Hq3⟩, ⟨%f2, HS2⟩, ⟨%g2, HR2⟩, Hq4, Hq5⟩, ⟨HT, HN, HX, HD⟩, Hg⟩
  isplitl [HS0 HS1 HS2 HR0 HR1 HR2 HT HX HD HN]
  · isplitl [HS0 HS1 HS2]
    · iapply (slotsA_join (c := c) ![f0, f1, f2])
      isplitl [HS0]; · iexact HS0
      isplitl [HS1]; · iexact HS1
      iexact HS2
    isplitl [HR0 HR1 HR2]
    · iapply (slotsC_join (c := c) ![g0, g1, g2])
      isplitl [HR0]; · iexact HR0
      isplitl [HR1]; · iexact HR1
      iexact HR2
    isplitl [HT]; · iexact HT
    isplitl [HX]; · iexact HX
    isplitl [HD]; · iexact HD
    iexact HN
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [HC0 HC1 HC2 HC3]
  · isplitl [HC0]; · iexact HC0
    isplitl [HC1]; · iexact HC1
    isplitl [HC2]; · iexact HC2
    iexact HC3
  isplitl [HA0]; · iexact HA0
  isplitl [HA1]; · iexact HA1
  isplitl [HA2]; · iexact HA2
  iexact HA3

/-- An offset of nothing and a unit step leave an index as it is. -/
theorem before_idx (o k : ℕ) (ho : o = 0) : o + 1 * k = k := by omega

end Cert.Kernel.Hand

end
-- ==== Proof.Ideal.lean ====
/-
  The idealized kernel's launch: its calls, the proof data of the one grid point, and the run of the program: its arguments end
  unchanged, its results are the body's.
-/
module

public import proofs.«01_k».proof.Proof.Split
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit

@[expose] public section

noncomputable section

namespace Cert.KernelIdeal.Hand

open Cert.Kernel.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

variable {c : Dev nD} {bd : Option ℕ}

/-! ## The calls -/

/-- The slow pass's call, by batch. -/
def callSlow (i : grid0.Coords) : Fin 4 → BitVec 32 → BitVec 1 → K0 (Λ₀ F) F (BitVec 32 × BitVec 1)
  | 0, j, d => Prog.lift (.call (1 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, bD, Memref.isWhole_whole _, mP, Memref.isWhole_whole _, j, d⟩)
  | 1, j, d => Prog.lift (.call (3 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, bD, Memref.isWhole_whole _, mP, Memref.isWhole_whole _, j, d⟩)
  | 2, j, d => Prog.lift (.call (5 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, bD, Memref.isWhole_whole _, mP, Memref.isWhole_whole _, j, d⟩)
  | 3, j, d => Prog.lift (.call (7 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, bD, Memref.isWhole_whole _, mP, Memref.isWhole_whole _, j, d⟩)
/-- The tie-filling pass's call, by batch. -/
def callFill (i : grid0.Coords) : Fin 4 → BitVec 32 → BitVec 1 → K0 (Λ₀ F) F (BitVec 32 × BitVec 1)
  | 0, j, d => Prog.lift (.call (2 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, j, d⟩)
  | 1, j, d => Prog.lift (.call (4 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, j, d⟩)
  | 2, j, d => Prog.lift (.call (6 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, j, d⟩)
  | 3, j, d => Prog.lift (.call (8 : (Λ₀ F).Label) ⟨i, cc0_scratch6, bA, Memref.isWhole_whole _, mA, Memref.isWhole_whole _, bC, Memref.isWhole_whole _, mC, Memref.isWhole_whole _, bN, Memref.isWhole_whole _, bT, Memref.isWhole_whole _, bX, Memref.isWhole_whole _, j, d⟩)

theorem while1_eq (i : grid0.Coords) (j : BitVec 32) (d : BitVec 1) :
    cc0_while1 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) bD (Memref.isWhole_whole _) mP (Memref.isWhole_whole _) j d
      = slowBody 0 0 Cert.Kernel.k0_chk1 Cert.Kernel.k0_chk1.dec (fun _ h => h) (callSlow i 0) j d := by
  sl_kernel_rfl
theorem while2_eq (i : grid0.Coords) (j : BitVec 32) (d : BitVec 1) :
    cc0_while2 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) j d
      = fillBody 0 0 Cert.Kernel.k0_chk2 Cert.Kernel.k0_chk2.dec (fun _ h => h) (callFill i 0) j d := by
  sl_kernel_rfl
theorem while3_eq (i : grid0.Coords) (j : BitVec 32) (d : BitVec 1) :
    cc0_while3 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) bD (Memref.isWhole_whole _) mP (Memref.isWhole_whole _) j d
      = slowBody 1 1 Cert.Kernel.k0_chk3 Cert.Kernel.k0_chk3.dec (fun _ h => h) (callSlow i 1) j d := by
  sl_kernel_rfl
theorem while4_eq (i : grid0.Coords) (j : BitVec 32) (d : BitVec 1) :
    cc0_while4 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) j d
      = fillBody 1 1 Cert.Kernel.k0_chk4 Cert.Kernel.k0_chk4.dec (fun _ h => h) (callFill i 1) j d := by
  sl_kernel_rfl
theorem while5_eq (i : grid0.Coords) (j : BitVec 32) (d : BitVec 1) :
    cc0_while5 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) bD (Memref.isWhole_whole _) mP (Memref.isWhole_whole _) j d
      = slowBody 2 2 Cert.Kernel.k0_chk5 Cert.Kernel.k0_chk5.dec (fun _ h => h) (callSlow i 2) j d := by
  sl_kernel_rfl
theorem while6_eq (i : grid0.Coords) (j : BitVec 32) (d : BitVec 1) :
    cc0_while6 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) j d
      = fillBody 2 2 Cert.Kernel.k0_chk6 Cert.Kernel.k0_chk6.dec (fun _ h => h) (callFill i 2) j d := by
  sl_kernel_rfl
theorem while7_eq (i : grid0.Coords) (j : BitVec 32) (d : BitVec 1) :
    cc0_while7 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) bD (Memref.isWhole_whole _) mP (Memref.isWhole_whole _) j d
      = slowBody 3 0 Cert.Kernel.k0_chk7 Cert.Kernel.k0_chk7.dec (fun _ h => h) (callSlow i 3) j d := by
  sl_kernel_rfl
theorem while8_eq (i : grid0.Coords) (j : BitVec 32) (d : BitVec 1) :
    cc0_while8 (F := F) i cc0_scratch6 bA (Memref.isWhole_whole _) mA (Memref.isWhole_whole _) bC (Memref.isWhole_whole _) mC (Memref.isWhole_whole _) bN (Memref.isWhole_whole _) bT (Memref.isWhole_whole _) bX (Memref.isWhole_whole _) j d
      = fillBody 3 0 Cert.Kernel.k0_chk8 Cert.Kernel.k0_chk8.dec (fun _ h => h) (callFill i 3) j d := by
  sl_kernel_rfl

theorem body_eq (i : grid0.Coords) :
    cc0__composite_kernel (F := F) i mP (Memref.isWhole_whole _) mA (Memref.isWhole_whole _) mC (Memref.isWhole_whole _) mO (Memref.isWhole_whole _) mN (Memref.isWhole_whole _) bA (Memref.isWhole_whole _) bC (Memref.isWhole_whole _) bT (Memref.isWhole_whole _) bX (Memref.isWhole_whole _) bD (Memref.isWhole_whole _) bN (Memref.isWhole_whole _) cc0_scratch6
      = bodyT (callSlow i) (callFill i) := by
  sl_kernel_rfl

/-- The slow passes' labels. -/
theorem slowRules (i : grid0.Coords) : SlowRules (defs₀ (F := F)) c (callSlow i) where
  r0 := fun bd v hv j d Q => by rw [← while1_eq i]; refine call_spec (D := defs₀ (F := F)) (F := F) (ℓ := (1 : (Λ₀ F).Label)) (bd := bd) (Q := Q) ?_ hv; unfold defs₀; rw [Defs.onTc_tc]
  r1 := fun bd v hv j d Q => by rw [← while3_eq i]; refine call_spec (D := defs₀ (F := F)) (F := F) (ℓ := (3 : (Λ₀ F).Label)) (bd := bd) (Q := Q) ?_ hv; unfold defs₀; rw [Defs.onTc_tc]
  r2 := fun bd v hv j d Q => by rw [← while5_eq i]; refine call_spec (D := defs₀ (F := F)) (F := F) (ℓ := (5 : (Λ₀ F).Label)) (bd := bd) (Q := Q) ?_ hv; unfold defs₀; rw [Defs.onTc_tc]
  r3 := fun bd v hv j d Q => by rw [← while7_eq i]; refine call_spec (D := defs₀ (F := F)) (F := F) (ℓ := (7 : (Λ₀ F).Label)) (bd := bd) (Q := Q) ?_ hv; unfold defs₀; rw [Defs.onTc_tc]

/-- The tie-filling passes' labels. -/
theorem fillRules (i : grid0.Coords) : FillRules (defs₀ (F := F)) c (callFill i) where
  r0 := fun bd v hv j d Q => by rw [← while2_eq i]; refine call_spec (D := defs₀ (F := F)) (F := F) (ℓ := (2 : (Λ₀ F).Label)) (bd := bd) (Q := Q) ?_ hv; unfold defs₀; rw [Defs.onTc_tc]
  r1 := fun bd v hv j d Q => by rw [← while4_eq i]; refine call_spec (D := defs₀ (F := F)) (F := F) (ℓ := (4 : (Λ₀ F).Label)) (bd := bd) (Q := Q) ?_ hv; unfold defs₀; rw [Defs.onTc_tc]
  r2 := fun bd v hv j d Q => by rw [← while6_eq i]; refine call_spec (D := defs₀ (F := F)) (F := F) (ℓ := (6 : (Λ₀ F).Label)) (bd := bd) (Q := Q) ?_ hv; unfold defs₀; rw [Defs.onTc_tc]
  r3 := fun bd v hv j d Q => by rw [← while8_eq i]; refine call_spec (D := defs₀ (F := F)) (F := F) (ℓ := (8 : (Λ₀ F).Label)) (bd := bd) (Q := Q) ?_ hv; unfold defs₀; rw [Defs.onTc_tc]

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The proof data of the one point -/

/-- The proof data: the arrays as the region finds them, the parameters' buffer after the body as before it, the two
    results' buffers at the body's results, nothing owed, full shares. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => V m c main_arg2
    | ⟨1, _⟩ => (ins m c).canvas
    | ⟨2, _⟩ => (ins m c).dens
  Φ _ := Pipeline.ΦD osem0 spec0 H0 (V m) c
  q _ := fullShare
  owed _ := 0

theorem A_eq (c : Dev nD) (w : Fin (cfg0 (F := F)).W) : (dats m 0 c).A w = V m c (Pipeline.arrRef spec0 w) := by
  dsimp only [dats]
theorem after0_0 (c : Dev nD) (t : Fin (cfg0 (F := F)).N) : (dats m 0 c).after 0 t = V m c main_arg2 := rfl
theorem after0_1 (c : Dev nD) (t : Fin (cfg0 (F := F)).N) : (dats m 0 c).after 1 t = (ins m c).canvas := rfl
theorem after0_2 (c : Dev nD) (t : Fin (cfg0 (F := F)).N) : (dats m 0 c).after 2 t = (ins m c).dens := rfl

/-- The parameters' buffer holds the whole array when the body runs. -/
theorem before0_0 (c : Dev nD) (t : Fin (cfg0 (F := F)).N) (d) : (dats m 0 c).before 0 t d = V m c main_arg2 := by
  rw [(dats m 0 c).before_fetched 0 t (fetch0_0 t), fin_N0 t]
  funext j
  unfold Dat.fetched Window.fill
  rw [dif_pos ((((cfg0 (F := F)).win 0).moved_iff _ j).mpr fun a => (j a).isLt)]
  exact congrArg (V m c main_arg2) (funext fun a => Fin.ext (by
    obtain ⟨a, ha⟩ := a
    exact before_idx (win0_0.kind.off (win0_0.index t0_0 ⟨a, ha⟩) (win0_0.size ⟨a, ha⟩)) _ (by match a, ha with | 0, _ => rfl | 1, _ => rfl | 2, _ => rfl)))

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at the grid's one point. -/
theorem bodyAt_eq : bodyAt0 (F := F) t0_0 = bodyT (callSlow (grid0.coords t0_0)) (callFill (grid0.coords t0_0)) := body_eq _

set_option maxHeartbeats 2000000 in
set_option backward.isDefEq.respectTransparency.types false in
theorem sound_body (c : Dev nD) (t : Fin (cfg0 (F := F)).N) :
    bodyPre m c t ⊢ wp frame (wpE (defs₀ (F := F)) Variants.nat c none) Set.univ (bodyAt0 t) (fun _ => bodyPost m c t) := by
  rw [fin_N0 t]
  unfold bodyPre bodyPost
  rw [bodyAt_eq]
  rw [show (dats m 0 c).Φ t0_0.succ = (dats m 0 c).Φ t0_0.castSucc from rfl, after0_0, after0_1, after0_2]
  rw [show (dats m 0 c).Φ t0_0.castSucc = Pipeline.ΦD osem0 Cert.Kernel.spec0 H0 (V m) c from rfl]
  unfold Dat.owesAt Pipeline.owesWithin
  rw [show (dats m 0 c).owed t0_0.castSucc = 0 from rfl, show (dats m 0 c).owed t0_0.succ = 0 from rfl]
  simp only [before0_0]
  iintro ⟨HΦ, ⟨%W, -, HW⟩, ⟨%d0, HP⟩, ⟨%d1, HO⟩, ⟨%d2, HN⟩⟩
  ihave HΦ := (phi_in m c) $$ HΦ
  icases HΦ with ⟨HB, HS, HX, Hg⟩
  iapply (bodyT_spec (I := ins m c) (slowRules (grid0.coords t0_0)) (fillRules (grid0.coords t0_0)))
  isplitl [HB]; · iexact HB
  isplitl [HS]; · iexact HS
  isplitl [HW]; · unfold Cert.Kernel.Hand.Owes; iexists _; iexact HW
  isplitl [HP]; · iexact HP
  isplitl [HX]; · iexact HX
  isplitl [HO]; · iexact HO
  isplitl [HN]; · iexact HN
  iintro ⟨HB, HS, HW, HP, HX, HO, HN⟩
  isplitl [HB HS HX Hg]
  · iapply (phi_out m c)
    isplitl [HB]; · iexact HB
    isplitl [HS]; · iexact HS
    isplitl [HX]; · iexact HX
    iexact Hg
  unfold Cert.Kernel.Hand.Owes
  icases HW with ⟨%W', HW⟩
  isplitl [HW]
  · iexists W'; isplitr; · ipureintro; exact fun _ _ => Or.inl trivial
    iexact HW
  isplitl [HP]; · iexact HP
  isplitl [HO]; · iexact HO
  iexact HN

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.nat ownSemFacts0 H0 H0_sub m ρ main
    (hbody := fun c => (body_obligation m c).loose) (hshare := fun c => (dats m 0 c).share_full fun _ => rfl)
    (howed := fun _ _ => rfl) (V := V m) (hmain := hmain m Variants.nat) (hA := A_eq m)
    (hin := fun _ => .rfl) (hout := fun _ => .rfl)

/-- The first result's array after the run. -/
theorem final_canvas (c : Dev nD) : (dats m 0 c).arrAt 1 (cfg0 (F := F)).N = (ins m c).canvas := by
  refine (dats m 0 c).arrAt_eq_of_after_last 1 t0_0 (by decide +kernel : win0_1.WholeAt t0_0) _ fun j => ?_
  exact congrArg (ins m c).canvas (show _ = ((cfg0 (F := F)).win 1).arr.view.emb j from rfl)

theorem whole0_2 : win0_2.WholeAt t0_0 := by decide +kernel

/-- The second result's array after the run. -/
theorem final_dens (c : Dev nD) : (dats m 0 c).arrAt 2 (cfg0 (F := F)).N = (ins m c).dens := by
  have hA := after0_2 m c t0_0
  generalize (ins m c).dens = G at hA ⊢
  exact (dats m 0 c).arrAt_eq_of_after_last 2 t0_0 whole0_2 G fun j => by rw [hA]; rfl

/-- The run: the results are the body's, the arguments end unchanged, every semaphore ends at zero. -/
theorem run : θ_run defs (onTc (τ := τ) (main (F := F))) ⟨m, fun _ => 0, ρ⟩ (fun r => (∀ c : Dev nD,
      r.2.mem ((c.tc : Thread nD τ).loc main_v0_0) = (ins m c).canvas
      ∧ r.2.mem ((c.tc : Thread nD τ).loc main_v0_1) = (ins m c).dens
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 (1 : Fin 3)).trans (final_canvas m c), ((h.1 c).1 (2 : Fin 3)).trans (final_dens m c),
      (h.1 c).2 main_arg0 (H0_sub (by decide)),
      (h.1 c).2 main_arg1 (H0_sub (by decide)),
      ((h.1 c).1 (0 : Fin 3)).trans ((dats m 0 c).arrAt_in (0 : Fin 3) rfl _)⟩, h.2⟩) (run_main m ρ)

end Cert.KernelIdeal.Hand

end
-- ==== Proof.Reference.lean ====
/-
  The reference, a program of host operations only: its facts and its run.
-/
module

public import proofs.«01_k».proof.ReferenceIdeal
public import Idealize.ShloMosaic.Lib.Claim
public import Idealize.ShloMosaic.Lib.Tactic
public import Idealize.ShloMosaic.Lib.Quiescent
public import Idealize.ShloMosaic.Lib.StableHlo.RunRead
public import Idealize.ShloMosaic.PureOps.Ideal

@[expose] public section

noncomputable section

namespace Cert.ReferenceIdeal.Hand

open Cert.ReferenceIdeal
open Idealize.ShloMosaic Idealize.ShloMosaic.TcCoe Idealize.ShloMosaic.Tactic
open Idealize.SL.Sem

instance facts₀ : Cert.ReferenceIdeal.Facts₀ := by constructor <;> decide
instance facts : Cert.ReferenceIdeal.Facts where

variable {F : FTy → Type} [FloatOps F]
variable (m : (ℓ : Loc nD τ sig) → Buf (Elt F) ℓ) (ρ : Dev nD → PrngReg)

/-- The reference runs, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · exact sem_eq_zero_of_no_sems rfl _

end Cert.ReferenceIdeal.Hand

end
-- ==== Proof.RefVals.lean ====
/-
  The arrays the reference computes, as pure functions of its arguments.
-/
module

public import proofs.«01_k».proof.Proof.Reference

@[expose] public section

noncomputable section

namespace Cert.ReferenceIdeal.Hand

open Cert.ReferenceIdeal Cert.ReferenceIdeal.Facts₀
open Idealize.ShloMosaic Idealize.ShloMosaic.TcCoe Idealize.ShloMosaic.Tactic

variable {F : FTy → Type} [FloatOps F]

/-- Where a stroke is visible. -/
def mask (A : FVec F S4x256x1x128x128 .f32) : IVec S4x256x1x128x128 1 :=
  cmpf .ogt A (broadcastInDim S4x256x1x128x128 ![] bcast_S_S4x256x1x128x128 (constant S_ .f32 0x3DCCCCCD#32))
/-- A visible stroke's position counted from one, zero for the others. -/
def keys (A : FVec F S4x256x1x128x128 .f32) : IVec S4x256x1x128x128 32 :=
  muli (broadcastInDim S4x256x1x128x128 ![0, 1, 2, 3, 4] bcast_S1x256x1x1x1_S4x256x1x128x128_0_1_2_3_4
      (shapeCast S1x256x1x1x1 (addi (broadcastInDim S256 ![] bcast_S_S256 (constantI S_ 32 1#32)) (iotaInDim S256 32 0)) shapeCasts_S256_S1x256x1x1x1))
    (extui 32 (mask A) natLt_1_32)
/-- The density of each stroke where it is visible. -/
def densOf (A : FVec F S4x256x1x128x128 .f32) (P : FVec F S4x256x8 .f32) : FVec F S4x256x1x128x128 .f32 :=
  mulf (broadcastInDim S4x256x1x128x128 ![0, 1, 2, 3, 4] bcast_S4x256x1x1x1_S4x256x1x128x128_0_1_2_3_4
      (shapeCast S4x256x1x1x1
        (mulf (shapeCast S4x256 (extractStridedSlice S4x256x1 ![0, 0, 2] P slices_S4x256x8_S4x256x1_0_0_2) shapeCasts_S4x256x1_S4x256)
          (shapeCast S4x256 (extractStridedSlice S4x256x1 ![0, 0, 3] P slices_S4x256x8_S4x256x1_0_0_3) shapeCasts_S4x256x1_S4x256))
        shapeCasts_S4x256_S4x256x1x1x1))
    (uitofp .f32 (mask A))
/-- The ten chosen strokes of each pixel. -/
def top (A : FVec F S4x256x1x128x128 .f32) : IVec S4x10x1x128x128 32 :=
  transpose S4x10x1x128x128 [0, 4, 1, 2, 3]
    (Host.topK S4x1x128x128x10 4 (IntOp.cmpi .sgt)
      (transpose S4x1x128x128x256 [0, 2, 3, 4, 1] (keys A) transposes_S4x256x1x128x128_S4x1x128x128x256_0_2_3_4_1)
      sliceFits_S4x1x128x128x256_S4x1x128x128x10).2
    transposes_S4x1x128x128x10_S4x10x1x128x128_0_4_1_2_3
/-- The chosen strokes, for each colour. -/
def top3 (A : FVec F S4x256x1x128x128 .f32) : IVec S4x10x3x128x128 32 :=
  broadcastInDim S4x10x3x128x128 ![0, 1, 2, 3, 4] bcast_S4x10x1x128x128_S4x10x3x128x128_0_1_2_3_4 (top A)

/-- Positions as the colour look-up takes them. -/
def pos3 (i : IVec S4x10x3x128x128 32) : IVec S4x10x3x128x128x1 32 :=
  shapeCast S4x10x3x128x128x1
    (select (cmpi .slt i (broadcastInDim S4x10x3x128x128 ![] bcast_S_S4x10x3x128x128 (constantI S_ 32 0#32)))
      (addi i (broadcastInDim S4x10x3x128x128 ![] bcast_S_S4x10x3x128x128 (constantI S_ 32 256#32))) i)
    shapeCasts_S4x10x3x128x128_S4x10x3x128x128x1
/-- The positions inside the colours. -/
def in3 (p : IVec S4x10x3x128x128x1 32) : IVec S4x10x3x128x128x1 1 :=
  andi (cmpi .sge p (broadcastInDim S4x10x3x128x128x1 ![] bcast_S_S4x10x3x128x128x1 (constantI S_ 32 0#32)))
    (cmpi .sle p (broadcastInDim S4x10x3x128x128x1 ![0, 1, 2, 3, 4, 5] bcast_S1x1x1x1x1x1_S4x10x3x128x128x1_0_1_2_3_4_5
      (broadcastInDim S1x1x1x1x1x1 ![5] bcast_S1_S1x1x1x1x1x1_5 (constantI S1 32 255#32))))
/-- The colours at positions. -/
def take3 (x : FVec F S4x256x3x128x128 .f32) (i : IVec S4x10x3x128x128 32) : FVec F S4x10x3x128x128 .f32 :=
  select (Host.reduce IntOp.andi (in3 (pos3 i)) (constantI S_ 1 1#1) reducesTo_S4x10x3x128x128x1_S4x10x3x128x128_d5 h_S_)
    (Host.gather gather_S4x256x3x128x128_S4x10x3x128x128x1_S4x10x3x128x128_n_1_0234_0234_1_5_11111 x (pos3 i))
    (broadcastInDim S4x10x3x128x128 ![] bcast_S_S4x10x3x128x128 (constant S_ .f32 0x7FC00000#32))

/-- Positions as the look-up of one plane takes them. -/
def pos1 (i : IVec S4x10x1x128x128 32) : IVec S4x10x128x128x1 32 :=
  shapeCast S4x10x128x128x1
    (select (cmpi .slt i (broadcastInDim S4x10x1x128x128 ![] bcast_S_S4x10x1x128x128 (constantI S_ 32 0#32)))
      (addi i (broadcastInDim S4x10x1x128x128 ![] bcast_S_S4x10x1x128x128 (constantI S_ 32 256#32))) i)
    shapeCasts_S4x10x1x128x128_S4x10x128x128x1
/-- The positions inside one plane. -/
def in1 (p : IVec S4x10x128x128x1 32) : IVec S4x10x128x128x1 1 :=
  andi (cmpi .sge p (broadcastInDim S4x10x128x128x1 ![] bcast_S_S4x10x128x128x1 (constantI S_ 32 0#32)))
    (cmpi .sle p (broadcastInDim S4x10x128x128x1 ![0, 1, 2, 3, 4] bcast_S1x1x1x1x1_S4x10x128x128x1_0_1_2_3_4
      (broadcastInDim S1x1x1x1x1 ![4] bcast_S1_S1x1x1x1x1_4 (constantI S1 32 255#32))))
/-- One plane's values at positions. -/
def take1 (x : FVec F S4x256x1x128x128 .f32) (i : IVec S4x10x1x128x128 32) : FVec F S4x10x1x128x128 .f32 :=
  select (broadcastInDim S4x10x1x128x128 ![0, 1, 3, 4] bcast_S4x10x128x128_S4x10x1x128x128_0_1_3_4
      (Host.reduce IntOp.andi (in1 (pos1 i)) (constantI S_ 1 1#1) reducesTo_S4x10x128x128x1_S4x10x128x128_d4 h_S_))
    (Host.gather gather_S4x256x1x128x128_S4x10x128x128x1_S4x10x1x128x128_2_1_034_023_1_4_11111 x (pos1 i))
    (broadcastInDim S4x10x1x128x128 ![] bcast_S_S4x10x1x128x128 (constant S_ .f32 0x7FC00000#32))

/-- A plane of ones. -/
def ones1 : FVec F S4x1x128x128 .f32 := broadcastInDim S4x1x128x128 ![] bcast_S_S4x1x128x128 (constant S_ .f32 0x3F800000#32)
/-- Three planes of ones. -/
def ones3 : FVec F S4x3x128x128 .f32 := broadcastInDim S4x3x128x128 ![] bcast_S_S4x3x128x128 (constant S_ .f32 0x3F800000#32)
/-- A plane for each colour. -/
def wide (x : FVec F S4x1x128x128 .f32) : FVec F S4x3x128x128 .f32 :=
  broadcastInDim S4x3x128x128 ![0, 1, 2, 3] bcast_S4x1x128x128_S4x3x128x128_0_1_2_3 x

theorem slices1 (k : ℕ) (hk : k < 10) : S4x10x1x128x128.Slices ![0, k, 0, 0, 0] S4x1x1x128x128 := by
  interval_cases k <;> decide
theorem slices3 (k : ℕ) (hk : k < 10) : S4x10x3x128x128.Slices ![0, k, 0, 0, 0] S4x1x3x128x128 := by
  interval_cases k <;> decide

/-- Chosen stroke `k`'s plane. -/
def pick1 (x : FVec F S4x10x1x128x128 .f32) (k : ℕ) (hk : k < 10) : FVec F S4x1x128x128 .f32 :=
  shapeCast S4x1x128x128 (extractStridedSlice S4x1x1x128x128 ![0, k, 0, 0, 0] x (slices1 k hk)) shapeCasts_S4x1x1x128x128_S4x1x128x128
/-- Chosen stroke `k`'s colours. -/
def pick3 (x : FVec F S4x10x3x128x128 .f32) (k : ℕ) (hk : k < 10) : FVec F S4x3x128x128 .f32 :=
  shapeCast S4x3x128x128 (extractStridedSlice S4x1x3x128x128 ![0, k, 0, 0, 0] x (slices3 k hk)) shapeCasts_S4x1x3x128x128_S4x3x128x128

/-- The canvas after a stroke. -/
def over3 (a : FVec F S4x1x128x128 .f32) (c y : FVec F S4x3x128x128 .f32) : FVec F S4x3x128x128 .f32 :=
  addf (mulf y (wide (subf ones1 a))) (mulf (wide a) c)
/-- The density map after a stroke. -/
def over1 (a d y : FVec F S4x1x128x128 .f32) : FVec F S4x1x128x128 .f32 :=
  addf (mulf y (subf ones1 a)) (mulf a d)

/-- The canvas after the last `n` chosen strokes. -/
def back3 (a : FVec F S4x10x1x128x128 .f32) (c : FVec F S4x10x3x128x128 .f32) : (n : ℕ) → n ≤ 10 → FVec F S4x3x128x128 .f32
  | 0, _ => ones3
  | n + 1, h => over3 (pick1 a (9 - n) (by omega)) (pick3 c (9 - n) (by omega)) (back3 a c n (Nat.le_of_succ_le h))
/-- The density map after the last `n` chosen strokes. -/
def back1 (a d : FVec F S4x10x1x128x128 .f32) : (n : ℕ) → n ≤ 10 → FVec F S4x1x128x128 .f32
  | 0, _ => ones1
  | n + 1, h => over1 (pick1 a (9 - n) (by omega)) (pick1 d (9 - n) (by omega)) (back1 a d n (Nat.le_of_succ_le h))

/-- The reference's canvas. -/
def canvas (C : FVec F S4x256x3x128x128 .f32) (A : FVec F S4x256x1x128x128 .f32) : FVec F S4x3x128x128 .f32 :=
  back3 (take1 A (top A)) (take3 C (top3 A)) 10 le_rfl
/-- The reference's density map. -/
def dens (A : FVec F S4x256x1x128x128 .f32) (P : FVec F S4x256x8 .f32) : FVec F S4x1x128x128 .f32 :=
  back1 (take1 A (top A)) (take1 (densOf A P) (top A)) 10 le_rfl

end Cert.ReferenceIdeal.Hand

end
-- ==== Proof.RefRun.lean ====
/-
  The reference's run, its results as pure functions of its arguments.
-/
module

public import proofs.«01_k».proof.Proof.RefVals

@[expose] public section

noncomputable section

namespace Cert.ReferenceIdeal.Hand

open Cert.ReferenceIdeal
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

set_option maxHeartbeats 20000000 in
set_option maxRecDepth 20000 in
/-- The reference runs to its two results. -/
theorem run : θ_run defs (onTc (τ := τ) (main (F := F))) ⟨m, fun _ => 0, ρ⟩ (fun r => (∀ c : Dev nD,
      r.2.mem ((c.tc : Thread nD τ).loc main_v198) = canvas (m ((c.tc : Thread nD τ).loc main_arg0)) (m ((c.tc : Thread nD τ).loc main_arg1))
      ∧ r.2.mem ((c.tc : Thread nD τ).loc main_v205) = dens (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · intro c
    refine ⟨?_, ?_, trivial, trivial, trivial⟩
    · simp -implicitDefEqProofs only [StableHlo.TRef.ofBuf_toBuf, StableHlo.TRef.ofBuf, StableHlo.TRef.toBuf, cast_eq]
      simp only [canvas, back3, over3, pick1, pick3, wide, ones1, ones3, take1, take3, in1, in3, pos1, pos3, top3, top, keys, mask]
      rfl
    · simp -implicitDefEqProofs only [StableHlo.TRef.ofBuf_toBuf, StableHlo.TRef.ofBuf, StableHlo.TRef.toBuf, cast_eq]
      rfl
  · exact sem_eq_zero_of_no_sems rfl _

end Cert.ReferenceIdeal.Hand

end
-- ==== Proof.Blend.lean ====
/-
  Blending at one pixel: front to back with a cap of ten against back to front, and the order in which a stable sort
  lists the strokes.
-/
module

public import Idealize.ShloMosaic.PureOps.Ideal
public import Idealize.ShloMosaic.PureOps.ShapeOps

@[expose] public section

noncomputable section

namespace Cert.Blend

open Idealize.ShloMosaic

/-! ## The order of the strokes -/

/-- The strokes of a list in the order of drawing: those that `v` marks, last first, then the others, first first. -/
def orderOf (v : Fin 256 → Bool) (l : List (Fin 256)) : List (Fin 256) := l.reverse.filter v ++ l.filter fun n => !v n
/-- All strokes in the order of drawing. -/
abbrev order (v : Fin 256 → Bool) : List (Fin 256) := orderOf v (List.finRange 256)

/-- Where an element is inserted into a list of two parts, the first before it and the second not. -/
theorem insertBefore_append {ι : Type} (before : ι → ι → Bool) (a : ι) (V I : List ι)
    (hV : ∀ b ∈ V, before b a = true) (hI : ∀ b ∈ I, before b a = false) : insertBefore before a (V ++ I) = V ++ a :: I := by
  induction V with
  | nil =>
    cases I with
    | nil => rfl
    | cons b I => simp [insertBefore, hI b (by simp)]
  | cons b V ih =>
    have hb := hV b (by simp)
    simp only [List.cons_append, insertBefore, hb, if_true]
    rw [ih fun x hx => hV x (by simp [hx])]

/-- A stable sort that puts a later stroke before an earlier one exactly where it is marked lists them in the order
    of drawing. -/
theorem stableSort_eq (v : Fin 256 → Bool) (before : Fin 256 → Fin 256 → Bool) (hb : ∀ a k, a < k → before k a = v k)
    (l : List (Fin 256)) (hl : l.Pairwise (· < ·)) : stableSort before l = orderOf v l := by
  induction l with
  | nil => rfl
  | cons a l ih =>
    rw [List.pairwise_cons] at hl
    rw [stableSort, ih hl.2, orderOf, insertBefore_append]
    · cases h : v a <;> simp [orderOf, h]
    · intro b hb'
      rw [List.mem_filter, List.mem_reverse] at hb'
      rw [hb a b (hl.1 b hb'.1)]; exact hb'.2
    · intro b hb'
      rw [List.mem_filter] at hb'
      rw [hb a b (hl.1 b hb'.1)]; simpa using hb'.2

/-- All strokes sorted so. -/
theorem sortPositions_eq (v : Fin 256 → Bool) (before : Fin 256 → Fin 256 → Bool) (hb : ∀ a k, a < k → before k a = v k) :
    sortPositions 256 before = order v := stableSort_eq v before hb _ (List.pairwise_lt_finRange 256)

theorem length_order (v : Fin 256 → Bool) : (order v).length = 256 := by
  rw [← sortPositions_eq v (fun k a => if a < k then v k else false) (by intro a k h; simp [h]), length_sortPositions]

/-- The stroke drawn `k`-th. -/
def nth (v : Fin 256 → Bool) (k : Fin 256) : Fin 256 := (order v)[k.val]'(by rw [length_order]; exact k.2)

theorem sortedFrom_eq (v : Fin 256 → Bool) (before : Fin 256 → Fin 256 → Bool) (hb : ∀ a k, a < k → before k a = v k) (k : Fin 256) :
    sortedFrom before k = nth v k := by
  unfold sortedFrom nth
  simp only [sortPositions_eq v before hb, List.get_eq_getElem, Fin.val_cast]

/-! ## Front to back with a cap of ten -/

/-- A pixel: what light still passes, what has been gathered, how many strokes were taken. -/
@[ext] structure Px where
  T : EReal
  X : EReal
  N : BitVec 32

/-- A stroke taken. -/
def Px.put (a q : EReal) (s : Px) : Px := ⟨s.T - s.T * a, s.X + s.T * a * q, s.N + 1#32⟩
/-- A stroke taken while fewer than ten are. -/
def Px.cap (a q : EReal) (s : Px) : Px := if s.N.slt 10#32 then s.put a q else s
/-- A step that takes the stroke where `t` says. -/
def Px.step (t : Bool) (a q : EReal) (s : Px) : Px :=
  ⟨s.T - (if t then s.T * a else 0), s.X + (if t then s.T * a else 0) * q, s.N + (if t then 1#32 else 0#32)⟩

theorem Px.step_eq (m : Bool) (a q : EReal) (s : Px) : s.step (m && s.N.slt 10#32) a q = if m then s.cap a q else s := by
  cases m <;> cases h : s.N.slt 10#32 <;> simp [Px.step, Px.cap, Px.put, h]

/-- Strokes taken in a list's order. -/
def Px.run (α κ : Fin 256 → EReal) (l : List (Fin 256)) (s : Px) : Px := l.foldl (fun s n => s.cap (α n) (κ n)) s

theorem Px.run_full (α κ : Fin 256 → EReal) (l : List (Fin 256)) (s : Px) (h : s.N.slt 10#32 = false) : s.run α κ l = s := by
  induction l with
  | nil => rfl
  | cons n l ih =>
    show Px.run α κ l (s.cap (α n) (κ n)) = s
    have : s.cap (α n) (κ n) = s := by simp [Px.cap, h]
    rw [this]; exact ih

theorem Px.run_append (α κ : Fin 256 → EReal) (l l' : List (Fin 256)) (s : Px) :
    s.run α κ (l ++ l') = (s.run α κ l).run α κ l' := List.foldl_append ..

theorem slt_ten (i : ℕ) (h : i ≤ 10) : (BitVec.ofNat 32 i).slt 10#32 = decide (i < 10) := by
  revert h; revert i; decide

/-- What a capped run leaves is the sum of what is gathered and what still passes, blended back to front over the first
    strokes of the list, for real values. -/
theorem run_eq (α κ : Fin 256 → ℝ) (l : List (Fin 256)) : ∀ (i : ℕ) (T X : ℝ), i ≤ 10 → 10 ≤ i + l.length →
    (Px.run (fun n => (α n : EReal)) (fun n => (κ n : EReal)) l ⟨T, X, BitVec.ofNat 32 i⟩).X
      + (Px.run (fun n => (α n : EReal)) (fun n => (κ n : EReal)) l ⟨T, X, BitVec.ofNat 32 i⟩).T
      = ((X + T * (l.take (10 - i)).foldr (fun n z => z * (1 - α n) + α n * κ n) 1 : ℝ) : EReal) := by
  induction l with
  | nil =>
    intro i T X hi hl
    have : i = 10 := by simp at hl; omega
    subst this
    simp [Px.run, EReal.coe_add]
  | cons n l ih =>
    intro i T X hi hl
    by_cases h : i < 10
    · have hs : (⟨T, X, BitVec.ofNat 32 i⟩ : Px).cap (α n) (κ n)
          = ⟨((T - T * α n : ℝ) : EReal), ((X + T * α n * κ n : ℝ) : EReal), BitVec.ofNat 32 (i + 1)⟩ := by
        have : (BitVec.ofNat 32 i).slt 10#32 = true := by rw [slt_ten i hi]; simpa using h
        simp only [Px.cap, this, if_true, Px.put]
        refine Px.ext ?_ ?_ ?_
        · push_cast; rfl
        · push_cast; rfl
        · show BitVec.ofNat 32 i + 1#32 = _
          rw [BitVec.ofNat_add]
      have hr : ∀ s : Px, Px.run (fun n => (α n : EReal)) (fun n => (κ n : EReal)) (n :: l) s
          = Px.run (fun n => (α n : EReal)) (fun n => (κ n : EReal)) l (s.cap (α n) (κ n)) := fun _ => rfl
      rw [hr, hs, ih (i + 1) _ _ h (by simp at hl; omega)]
      have ht : 10 - i = (10 - (i + 1)) + 1 := by omega
      rw [ht, List.take_succ_cons, List.foldr_cons]
      congr 1; ring
    · have : i = 10 := by omega
      subst this
      rw [Px.run_full _ _ _ _ (show (10#32 : BitVec 32).slt 10#32 = false by decide)]
      simp [EReal.coe_add]

/-- The two passes, with the strokes that `v` marks taken in the first and the others in the second, are one run in the
    order of drawing. -/
theorem run_order (v : Fin 256 → Bool) (α κ : Fin 256 → EReal) (s : Px) :
    (List.finRange 256).foldl (fun s n => s.step (!v n && s.N.slt 10#32) (α n) (κ n))
      ((List.finRange 256).reverse.foldl (fun s n => s.step (v n && s.N.slt 10#32) (α n) (κ n)) s) = s.run α κ (order v) := by
  simp only [Px.step_eq]
  rw [show order v = (List.finRange 256).reverse.filter v ++ (List.finRange 256).filter fun n => !v n from rfl, Px.run_append, Px.run, Px.run, List.foldl_filter, List.foldl_filter]

end Cert.Blend

end
-- ==== Proof.Pixel.lean ====
/-
  What the kernel's passes do to one pixel, at the ideal floats: the early exits and the chunking have no effect.
-/
module

public import proofs.«01_k».proof.Proof.Pure
public import proofs.«01_k».proof.Proof.Blend
public import Idealize.ShloMosaic.Lib.SortNet.Extract
public import Idealize.ShloMosaic.PureOps.Reduce
public import Idealize.ShloMosaic.Lib.IdealHost

@[expose] public section

noncomputable section

namespace Cert.Kernel.Hand

open Cert.Kernel Cert.Kernel.Gen Cert.Blend
open Idealize.ShloMosaic Idealize.ShloMosaic.TcCoe Idealize.ShloMosaic.Tactic

/-! ## The early exits -/

/-- A signed minimum over a set is at most each element. -/
theorem fold_minsi_le {ι : Type} [DecidableEq ι] (S : Finset ι) (x : ι → BitVec 32) (acc : BitVec 32) :
    ∀ i ∈ S, (S.fold IntOp.minsi acc x).toInt ≤ (x i).toInt := by
  induction S using Finset.induction_on with
  | empty => simp
  | insert a S ha ih =>
    intro i hi
    rw [Finset.fold_insert ha, SortNet.toInt_minsi]
    rcases Finset.mem_insert.mp hi with rfl | hi
    · exact min_le_left _ _
    · exact (min_le_right _ _).trans (ih i hi)

instance : Subsingleton S1.Idx := ⟨fun a b => funext fun k => by
  match k with
  | ⟨0, _⟩ => exact Subsingleton.elim (α := Fin 1) _ _⟩

theorem full_of_le {x y : BitVec 32} (h : IntOp.cmpi .sge x 10#32 = 1#1) (hxy : x.toInt ≤ y.toInt) : y.slt 10#32 = false := by
  have h1 : (10#32 : BitVec 32).sle x = true := by
    have h' : BitVec.ofBool ((10#32 : BitVec 32).sle x) = 1#1 := h
    revert h'; cases (10#32 : BitVec 32).sle x <;> decide
  rw [BitVec.sle, decide_eq_true_eq] at h1
  rw [BitVec.slt, decide_eq_false_iff_not, not_lt]
  exact h1.trans hxy

theorem reduced_le {s : Shape} {axes : List (Fin s.rank)} (src : IVec s 32) (h : s.Reduces axes S1) (hacc) (j0 : S1.Idx) (i : s.Idx) :
    (multiReductionI .minsi axes S1 src 2147483647#32 h hacc j0).toInt ≤ (src i).toInt := by
  rw [multiReductionI_eq_fold]
  exact fold_minsi_le _ _ _ _ (Finset.mem_filter.mpr ⟨Finset.mem_univ _, Subsingleton.elim _ _⟩)

theorem full_of_doneOf (N : IVec S128x128 32) (h : doneOf N = 1#1) (j : S128x128.Idx) : (N j).slt 10#32 = false := by
  refine full_of_le h ?_
  have hN : shapeCast S1x128x128 N shapeCasts_S128x128_S1x128x128 (ix3 0 (j 0) (j 1)) = N j := by
    apply shapeCast_apply
    rw [Shape.rowMajor_val_three, Shape.rowMajor_val_two]; simp
  rw [← hN]
  exact reduced_le _ _ rfl _ _

theorem full_of_doneOf2 (N0 N1 : IVec S64x128 32) (h : doneOf2 N0 N1 = 1#1) (j : S64x128.Idx) :
    (N0 j).slt 10#32 = false ∧ (N1 j).slt 10#32 = false := by
  have hN : shapeCast S1x64x128 (minsi N0 N1) shapeCasts_S64x128_S1x64x128 (ix3 0 (j 0) (j 1)) = IntOp.minsi (N0 j) (N1 j) := by
    refine (shapeCast_apply (minsi N0 N1) _ _ j ?_).trans rfl
    rw [Shape.rowMajor_val_three, Shape.rowMajor_val_two]; simp
  constructor
  · refine full_of_le h (le_trans ?_ (min_le_left _ (N1 j).toInt))
    rw [← SortNet.toInt_minsi, ← hN]
    exact reduced_le _ _ rfl _ _
  · refine full_of_le h (le_trans ?_ (min_le_right (N0 j).toInt _))
    rw [← SortNet.toInt_minsi, ← hN]
    exact reduced_le _ _ rfl _ _

/-! ## One step at a pixel -/

/-- An accumulator of a pixel: a colour or the density. -/
def St.px {s : Shape} (st : St Ideal s) (sel : Fin 4) (j : s.Idx) : Px :=
  ⟨st.T j, (![st.X0 j, st.X1 j, st.X2 j, st.D j] : Fin 4 → EReal) sel, st.N j⟩

namespace Ins
variable (I : Ins Ideal) (b : Fin 4)

/-- A stroke is visible at a pixel. -/
def vis (j : S128x128.Idx) (n : Fin 256) : Bool := FloatOps.cmpf .ogt (I.a b n j) (FloatOps.ofBits (F := Ideal) .f32 0x3DCCCCCD#32) == 1#1
/-- What a stroke adds per weight to an accumulator. -/
def val (sel : Fin 4) (j : S128x128.Idx) (n : Fin 256) : EReal :=
  (![I.c b n 0 j, I.c b n 1 j, I.c b n 2 j, I.p b n * (if I.vis b j n then 1 else 0)] : Fin 4 → EReal) sel

theorem take_eq (m : BitVec 1) (x : BitVec 32) : IntOp.andi m (IntOp.cmpi .slt x 10#32) = BitVec.ofBool ((m == 1#1) && x.slt 10#32) := by
  show m &&& BitVec.ofBool (x.slt 10#32) = _
  rcases BitVec.eq_zero_or_eq_one m with rfl | rfl <;> cases x.slt 10#32 <;> decide
theorem not_eq (m : BitVec 1) : (IntOp.xori m 1#1 == 1#1) = !(m == 1#1) := by
  rcases BitVec.eq_zero_or_eq_one m with rfl | rfl <;> decide

theorem pick_eq (t : Bool) (x : EReal) : (if BitVec.ofBool t = 1#1 then x else (Ideal.ofBits .f32 0x00000000#32 : EReal)) = if t then x else 0 := by
  rw [show (Ideal.ofBits .f32 0x00000000#32 : EReal) = 0 by simp [Ideal.ofBits, Ideal.ieee]]
  cases t <;> simp
theorem count_eq (t : Bool) (x : BitVec 32) : IntOp.addi x (BitVec.setWidth 32 (BitVec.ofBool t)) = x + if t then 1 else 0 := by
  cases t <;> rfl

theorem stepV_px (n : Fin 256) (st : St Ideal S128x128) (sel : Fin 4) (j : S128x128.Idx) :
    (I.stepV b n st).px sel j = (st.px sel j).step (I.vis b j n && (st.px sel j).N.slt 10#32) (I.a b n j) (I.val b sel j n) := by
  have ht : takeV st.N (I.a b n) j = BitVec.ofBool (I.vis b j n && (st.N j).slt 10#32) := take_eq _ _
  have hw : wgt (takeV st.N (I.a b n)) st.T (I.a b n) j = if (I.vis b j n && (st.N j).slt 10#32) then st.T j * I.a b n j else 0 := by
    show (if takeV st.N (I.a b n) j = 1#1 then _ else _) = _
    rw [ht]; exact pick_eq _ _
  have hn : addi st.N (extui 32 (takeV st.N (I.a b n))) j = st.N j + if (I.vis b j n && (st.N j).slt 10#32) then 1 else 0 := by
    show IntOp.addi (st.N j) (BitVec.setWidth 32 (takeV st.N (I.a b n) j)) = _
    rw [ht]; exact count_eq _ _
  have hv : (if (I.vis b j n && (st.N j).slt 10#32) then st.T j * I.a b n j else 0) * I.p b n
      = (if (I.vis b j n && (st.N j).slt 10#32) then st.T j * I.a b n j else 0) * (I.p b n * (if I.vis b j n then 1 else 0)) := by
    cases I.vis b j n <;> simp
  refine Px.ext ?_ ?_ hn
  · exact congrArg (st.T j - ·) hw
  · match sel with
    | 0 => exact congrArg (fun w => st.X0 j + w * I.c b n 0 j) hw
    | 1 => exact congrArg (fun w => st.X1 j + w * I.c b n 1 j) hw
    | 2 => exact congrArg (fun w => st.X2 j + w * I.c b n 2 j) hw
    | 3 => exact (congrArg (fun w => st.D j + w * I.p b n) hw).trans (congrArg (st.D j + ·) hv)

theorem stepI_px (n : Fin 256) (st : St Ideal S128x128) (sel : Fin 4) (j : S128x128.Idx) :
    (I.stepI b n st).px sel j = (st.px sel j).step (!I.vis b j n && (st.px sel j).N.slt 10#32) (I.a b n j) (I.val b sel j n) := by
  have ht : takeI st.N (I.a b n) j = BitVec.ofBool (!I.vis b j n && (st.N j).slt 10#32) := by
    refine (take_eq _ _).trans (congrArg (fun c => BitVec.ofBool (c && (st.N j).slt 10#32)) ?_)
    exact not_eq _
  have hw : wgt (takeI st.N (I.a b n)) st.T (I.a b n) j = if (!I.vis b j n && (st.N j).slt 10#32) then st.T j * I.a b n j else 0 := by
    show (if takeI st.N (I.a b n) j = 1#1 then _ else _) = _
    rw [ht]; exact pick_eq _ _
  have hn : addi st.N (extui 32 (takeI st.N (I.a b n))) j = st.N j + if (!I.vis b j n && (st.N j).slt 10#32) then 1 else 0 := by
    show IntOp.addi (st.N j) (BitVec.setWidth 32 (takeI st.N (I.a b n) j)) = _
    rw [ht]; exact count_eq _ _
  have hv : st.D j = st.D j + (if (!I.vis b j n && (st.N j).slt 10#32) then st.T j * I.a b n j else 0) * (I.p b n * (if I.vis b j n then 1 else 0)) := by
    cases I.vis b j n <;> simp
  refine Px.ext ?_ ?_ hn
  · exact congrArg (st.T j - ·) hw
  · match sel with
    | 0 => exact congrArg (fun w => st.X0 j + w * I.c b n 0 j) hw
    | 1 => exact congrArg (fun w => st.X1 j + w * I.c b n 1 j) hw
    | 2 => exact congrArg (fun w => st.X2 j + w * I.c b n 2 j) hw
    | 3 => exact hv

/-! ## The passes at a pixel -/

/-- A step of stroke `n` at a pixel, in the pass over the strokes whose visibility is `m`. -/
def sp (m : Bool) (sel : Fin 4) (j : S128x128.Idx) (s : Px) (n : Fin 256) : Px :=
  s.step ((I.vis b j n == m) && s.N.slt 10#32) (I.a b n j) (I.val b sel j n)

theorem stepV_sp (n : Fin 256) (st : St Ideal S128x128) (sel : Fin 4) (j : S128x128.Idx) :
    (I.stepV b n st).px sel j = I.sp b true sel j (st.px sel j) n := by
  rw [stepV_px, sp]; cases I.vis b j n <;> rfl
theorem stepI_sp (n : Fin 256) (st : St Ideal S128x128) (sel : Fin 4) (j : S128x128.Idx) :
    (I.stepI b n st).px sel j = I.sp b false sel j (st.px sel j) n := by
  rw [stepI_px, sp]; cases I.vis b j n <;> rfl

/-- A pixel with ten strokes taken stays. -/
theorem foldl_full (m : Bool) (sel : Fin 4) (j : S128x128.Idx) (l : List (Fin 256)) (s : Px) (h : s.N.slt 10#32 = false) :
    l.foldl (I.sp b m sel j) s = s := by
  induction l with
  | nil => rfl
  | cons n l ih =>
    rw [List.foldl_cons, show I.sp b m sel j s n = s from ?_, ih]
    rw [sp, Px.step_eq, Px.cap, h]; simp

theorem fast_px (sel : Fin 4) (j : S128x128.Idx) : ∀ (n : ℕ) (h : n ≤ 20) (st : St Ideal S128x128),
    (I.fast b n h st).px sel j = (((List.range' 236 n).reverse.map stroke).foldl (I.sp b true sel j) (st.px sel j))
  | 0, _, _ => rfl
  | n + 1, h, st => by
    rw [fast, fast_px sel j n, stepV_sp, List.range'_concat]
    have hs : strokeOf ⟨n, h⟩ = stroke (236 + 1 * n) := Fin.ext (by show 236 + n = (236 + 1 * n) % 256; omega)
    simp [hs]

theorem slowTrips_px (sel : Fin 4) (j : S128x128.Idx) (first : ℕ) (st : St Ideal S128x128) :
    (I.slowTrips b first 4 st).px sel j = (((List.range' first 4).reverse.map stroke).foldl (I.sp b true sel j) (st.px sel j)) := by
  simp only [slowTrips, stepV_sp]; rfl
theorem fillTrips_px (sel : Fin 4) (j : S128x128.Idx) (first : ℕ) (st : St Ideal S128x128) :
    (I.fillTrips b first 4 st).px sel j = (((List.range' first 4).map stroke).foldl (I.sp b false sel j) (st.px sel j)) := by
  simp only [fillTrips, stepI_sp]; rfl

theorem slowFrom_px (sel : Fin 4) (j : S128x128.Idx) : ∀ (k i : ℕ) (d : BitVec 1) (st : St Ideal S128x128), i + k = 59 →
    (d = 1#1 → (st.N j).slt 10#32 = false) →
    (I.slowFrom b k i d st).px sel j = (((List.range' 0 (4 * k)).reverse.map stroke).foldl (I.sp b true sel j) (st.px sel j))
  | 0, _, _, _, _, _ => rfl
  | k + 1, i, d, st, hk, hd => by
    rw [slowFrom]
    split
    · next h => rw [I.foldl_full b true sel j _ (st.px sel j) (hd h)]
    · rw [slowFrom_px sel j k (i + 1) _ _ (by omega) (fun h => full_of_doneOf _ h j), slowTrips_px,
        show (58 - i) * 4 = 0 + 1 * (4 * k) by omega, show 4 * (k + 1) = 4 * k + 4 by omega, ← List.range'_append]
      rw [List.reverse_append, List.map_append, List.foldl_append]
theorem fillFrom_px (sel : Fin 4) (j : S128x128.Idx) : ∀ (k i : ℕ) (d : BitVec 1) (st : St Ideal S128x128),
    (d = 1#1 → (st.N j).slt 10#32 = false) →
    (I.fillFrom b k i d st).px sel j = (((List.range' (i * 4) (4 * k)).map stroke).foldl (I.sp b false sel j) (st.px sel j))
  | 0, _, _, _, _ => rfl
  | k + 1, i, d, st, hd => by
    rw [fillFrom]
    split
    · next h => rw [I.foldl_full b false sel j _ (st.px sel j) (hd h)]
    · rw [fillFrom_px sel j k (i + 1) _ _ (fun h => full_of_doneOf _ h j), fillTrips_px,
        show 4 * (k + 1) = 4 + 4 * k by omega, ← List.range'_append, List.map_append, List.foldl_append,
        show i * 4 + 1 * 4 = (i + 1) * 4 by omega]

theorem rows_full (N : IVec S128x128 32) (h : doneOf2 (rowsV 0 N) (rowsV 1 N) = 1#1) (j : S128x128.Idx) : (N j).slt 10#32 = false := by
  by_cases hj : (j 0).val < 64
  · have := (full_of_doneOf2 _ _ h (ix2 ⟨(j 0).val, hj⟩ (j 1))).1
    rwa [show rowsV 0 N (ix2 ⟨(j 0).val, hj⟩ (j 1)) = N j from congrArg N (by
      funext a
      match a with
      | ⟨0, _⟩ => exact Fin.ext (by simp [rowOf])
      | ⟨1, _⟩ => rfl)] at this
  · have hlt : (j 0).val < 128 := (j 0).2
    have := (full_of_doneOf2 _ _ h (ix2 ⟨(j 0).val - 64, by omega⟩ (j 1))).2
    rwa [show rowsV 1 N (ix2 ⟨(j 0).val - 64, by omega⟩ (j 1)) = N j from congrArg N (by
      funext a
      match a with
      | ⟨0, _⟩ => exact Fin.ext (by simp [rowOf]; omega)
      | ⟨1, _⟩ => rfl)] at this

theorem finRange_eq : (List.range' 0 256).map stroke = List.finRange 256 := by
  apply List.ext_getElem
  · simp
  · intro i h1 h2
    have : i < 256 := by simpa using h1
    refine Fin.ext ?_
    simp [stroke, Nat.mod_eq_of_lt this]

/-- A batch's last state at a pixel: the strokes in the order that puts the visible ones first, until ten are taken. -/
theorem stFill_px (sel : Fin 4) (j : S128x128.Idx) :
    (I.stFill b).px sel j = Px.run (fun n => I.a b n j) (fun n => I.val b sel j n) (order (I.vis b j)) ⟨1, 0, 0#32⟩ := by
  rw [stFill, fillFrom_px I b sel j _ _ _ _ (fun h => full_of_doneOf _ h j), stSlow,
    slowFrom_px I b sel j _ _ _ _ rfl (fun h => rows_full _ h j), stFast, fast_px, ← List.foldl_append, ← List.map_append, ← List.reverse_append]
  rw [show (List.range' 236 20) = List.range' (0 + 1 * (4 * 59)) 20 from rfl, List.range'_append, show 0 * 4 = 0 from rfl]
  rw [show 4 * 59 + 20 = 256 from rfl, show 4 * 64 = 256 from rfl, List.map_reverse, finRange_eq, ← run_order]
  have hinit : (St.init Ideal S128x128).px sel j = ⟨1, 0, 0#32⟩ := by
    refine Px.ext ?_ ?_ rfl
    · show Ideal.ofBits .f32 0x3F800000#32 = 1
      rw [Ideal.ofBits_one_f32]
    · have hz : (Ideal.ofBits .f32 0x00000000#32 : EReal) = 0 := by simp [Ideal.ofBits, Ideal.ieee]
      match sel with
      | 0 => exact hz
      | 1 => exact hz
      | 2 => exact hz
      | 3 => exact hz
  rw [hinit]
  have hV : I.sp b true sel j = fun s n => s.step (I.vis b j n && s.N.slt 10#32) (I.a b n j) (I.val b sel j n) := by
    funext s n; rw [sp]; cases I.vis b j n <;> rfl
  have hI : I.sp b false sel j = fun s n => s.step (!I.vis b j n && s.N.slt 10#32) (I.a b n j) (I.val b sel j n) := by
    funext s n; rw [sp]; cases I.vis b j n <;> rfl
  rw [hV, hI]

end Ins
end Cert.Kernel.Hand
end
-- ==== Proof.RefTop.lean ====
/-
  The strokes the reference chooses for a pixel: the first ten of the order that puts the visible ones first.
-/
module

public import proofs.«01_k».proof.Proof.RefVals
public import proofs.«01_k».proof.Proof.Blend
public import Idealize.ShloMosaic.Lib.ValueIdxCore
public import Idealize.ShloMosaic.Lib.IdealHost
public import Idealize.ShloMosaic.Lib.ReduceAll
public import Idealize.ShloMosaic.Lib.Pipeline.Value
public import Idealize.ShloMosaic.Lib.Pointwise.Index
public import Idealize.ShloMosaic.Lib.SortFacts

@[expose] public section

noncomputable section

namespace Cert.ReferenceIdeal.Hand

open Cert.ReferenceIdeal Cert.ReferenceIdeal.Facts₀ Cert.Blend
open Idealize.ShloMosaic Idealize.ShloMosaic.TcCoe Idealize.ShloMosaic.Tactic

variable (A : FVec Ideal S4x256x1x128x128 .f32) (P : FVec Ideal S4x256x8 .f32) (C : FVec Ideal S4x256x3x128x128 .f32)
variable (b : Fin 4) (y x : Fin 128)

/-- A stroke is visible at a pixel. -/
def vis (n : Fin 256) : Bool := FloatOps.cmpf .ogt (A (ix5 b n 0 y x)) (FloatOps.ofBits (F := Ideal) .f32 0x3DCCCCCD#32) == 1#1

theorem mask_at (n : Fin 256) : mask A (ix5 b n 0 y x) = BitVec.ofBool (vis A b y x n) := by
  show FloatOps.cmpf .ogt (A (ix5 b n 0 y x)) (FloatOps.ofBits (F := Ideal) .f32 0x3DCCCCCD#32) = _
  unfold vis
  rcases BitVec.eq_zero_or_eq_one (FloatOps.cmpf .ogt (A (ix5 b n 0 y x)) (FloatOps.ofBits (F := Ideal) .f32 0x3DCCCCCD#32)) with h | h <;>
    rw [h] <;> rfl

theorem count_at (n : Fin 256) :
    shapeCast S1x256x1x1x1 (addi (broadcastInDim S256 ![] bcast_S_S256 (constantI S_ 32 1#32)) (iotaInDim S256 32 0)) shapeCasts_S256_S1x256x1x1x1
      (ix5 0 n 0 0 0) = 1#32 + BitVec.ofNat 32 n.val := by
  refine (shapeCast_apply _ _ _ (ix1 n) ?_).trans rfl
  rw [Shape.rowMajor_val_one, Shape.rowMajor_val_five]; simp

theorem keys_at (n : Fin 256) : keys A (ix5 b n 0 y x) = if vis A b y x n then BitVec.ofNat 32 (n.val + 1) else 0#32 := by
  have h : keys A (ix5 b n 0 y x) = IntOp.muli (1#32 + BitVec.ofNat 32 n.val) (BitVec.setWidth 32 (mask A (ix5 b n 0 y x))) := by
    rw [← count_at n]
    refine congrArg (fun z => IntOp.muli z _) ?_
    unfold broadcastInDim
    refine congrArg _ ?_
    funext a
    match a with
    | ⟨0, _⟩ => rfl
    | ⟨1, _⟩ => rfl
    | ⟨2, _⟩ => rfl
    | ⟨3, _⟩ => rfl
    | ⟨4, _⟩ => rfl
  rw [h, mask_at]
  show (1#32 + BitVec.ofNat 32 n.val) * _ = _
  cases vis A b y x n
  · simp
  · rw [if_pos rfl, show BitVec.setWidth 32 (BitVec.ofBool true) = 1#32 from rfl, BitVec.mul_one, Nat.add_comm, BitVec.ofNat_add]

theorem tkeys_at (n : Fin 256) : transpose S4x1x128x128x256 [0, 2, 3, 4, 1] (keys A) transposes_S4x256x1x128x128_S4x1x128x128x256_0_2_3_4_1 (ix5 b 0 y x n)
    = keys A (ix5 b n 0 y x) := by
  unfold transpose
  refine congrArg _ ?_
  funext a
  match a with
  | ⟨0, _⟩ => rfl
  | ⟨1, _⟩ => rfl
  | ⟨2, _⟩ => rfl
  | ⟨3, _⟩ => rfl
  | ⟨4, _⟩ => rfl

theorem key_toInt (v : Bool) (n : Fin 256) : (if v then BitVec.ofNat 32 (n.val + 1) else 0#32).toInt = if v then (n.val : ℤ) + 1 else 0 := by
  revert n; cases v
  · intro _; rfl
  · decide

theorem before_eq (a k : Fin 256) (h : a < k) :
    (IntOp.cmpi .sgt (keys A (ix5 b k 0 y x)) (keys A (ix5 b a 0 y x)) == 1#1) = vis A b y x k := by
  have hb : ∀ c : Bool, (BitVec.ofBool c == 1#1) = c := by decide
  show (BitVec.ofBool ((keys A (ix5 b a 0 y x)).slt (keys A (ix5 b k 0 y x))) == 1#1) = _
  rw [hb, BitVec.slt, keys_at, keys_at, key_toInt, key_toInt]
  have : a.val < k.val := h
  cases vis A b y x a <;> cases vis A b y x k <;> simp <;> omega

/-- A place of a stable top list holds the position that the sort by the list's order brings there. -/
theorem topK_snd {s t : Shape} {α : Type} (d : ℕ) (hd : d < s.rank) (gt : α → α → BitVec 1) (v : s.Idx → α) (h : s.Slices (fun _ => 0) t) (j : t.Idx)
    (J : s.Idx) (hJ : (fun a => ⟨0 + (j (a.cast h.1.symm)).val, Nat.lt_of_lt_of_le (Nat.add_lt_add_left (j _).isLt _) (h.2 a)⟩ : s.Idx) = J) :
    (Host.topK t d gt v h).2 j
      = BitVec.ofNat 32 (sortedFrom (fun k k' => gt (v (J.along ⟨d, hd⟩ k)) (v (J.along ⟨d, hd⟩ k')) == 1#1) (J ⟨d, hd⟩)).val := by
  subst hJ
  unfold Host.topK Host.sort2 extractStridedSlice
  simp only [dif_pos hd, iotaInDim]
  simp [Shape.Idx.along]

/-- The stroke drawn at place `k` of a pixel. -/
theorem top_at (k : Fin 10) : top A (ix5 b k 0 y x) = BitVec.ofNat 32 (nth (vis A b y x) (k.castLE (by decide))).val := by
  have h1 : top A (ix5 b k 0 y x) = (Host.topK S4x1x128x128x10 4 (IntOp.cmpi .sgt)
      (transpose S4x1x128x128x256 [0, 2, 3, 4, 1] (keys A) transposes_S4x256x1x128x128_S4x1x128x128x256_0_2_3_4_1)
      sliceFits_S4x1x128x128x256_S4x1x128x128x10).2 (ix5 b 0 y x k) := by
    unfold top transpose
    refine congrArg _ ?_
    funext a
    match a with
    | ⟨0, _⟩ => rfl
    | ⟨1, _⟩ => rfl
    | ⟨2, _⟩ => rfl
    | ⟨3, _⟩ => rfl
    | ⟨4, _⟩ => rfl
  rw [h1]
  have h2 : (Host.topK S4x1x128x128x10 4 (IntOp.cmpi .sgt)
      (transpose S4x1x128x128x256 [0, 2, 3, 4, 1] (keys A) transposes_S4x256x1x128x128_S4x1x128x128x256_0_2_3_4_1)
      sliceFits_S4x1x128x128x256_S4x1x128x128x10).2 (ix5 b 0 y x k)
      = BitVec.ofNat 32 (sortedFrom (fun k' a : Fin 256 => IntOp.cmpi .sgt (keys A (ix5 b k' 0 y x)) (keys A (ix5 b a 0 y x)) == 1#1) (k.castLE (by decide))).val := by
    rw [topK_snd 4 (by decide) _ _ _ _ (ix5 b 0 y x (k.castLE (by decide))) (by
      funext a
      match a with
      | ⟨0, _⟩ => exact Fin.ext (Nat.zero_add _)
      | ⟨1, _⟩ => exact Fin.ext (Nat.zero_add _)
      | ⟨2, _⟩ => exact Fin.ext (Nat.zero_add _)
      | ⟨3, _⟩ => exact Fin.ext (Nat.zero_add _)
      | ⟨4, _⟩ => exact Fin.ext (Nat.zero_add _))]
    have hal : ∀ n : Fin 256, Shape.Idx.along (s := S4x1x128x128x256) (ix5 b 0 y x (k.castLE (by decide))) (4 : Fin 5) n = ix5 b 0 y x n := by
      intro n; funext a
      match a with
      | ⟨0, _⟩ => rfl
      | ⟨1, _⟩ => rfl
      | ⟨2, _⟩ => rfl
      | ⟨3, _⟩ => rfl
      | ⟨4, _⟩ => rfl
    refine congrArg (fun z : Fin 256 => BitVec.ofNat 32 z.val) ?_
    refine congrArg (fun z : Fin 256 → Fin 256 → Bool => sortedFrom z (k.castLE (by decide))) ?_
    funext n a
    have hk : ∀ n : Fin 256, transpose S4x1x128x128x256 [0, 2, 3, 4, 1] (keys A) transposes_S4x256x1x128x128_S4x1x128x128x256_0_2_3_4_1
        (Shape.Idx.along (s := S4x1x128x128x256) (ix5 b 0 y x (k.castLE (by decide))) (4 : Fin 5) n) = keys A (ix5 b n 0 y x) := fun n => by
      rw [hal n, tkeys_at]
    exact congrArg₂ (fun p q => IntOp.cmpi .sgt p q == 1#1) (hk n) (hk a)
  rw [h2, sortedFrom_eq (vis A b y x) _ (fun a k h => before_eq A b y x a k h)]

end Cert.ReferenceIdeal.Hand

end
-- ==== Proof.RefTake.lean ====
/-
  The reference's look-ups read at an index: the chosen stroke's element.
-/
module

public import proofs.«01_k».proof.Proof.RefTop

@[expose] public section

noncomputable section

namespace Cert.ReferenceIdeal.Hand

open Cert.ReferenceIdeal Cert.ReferenceIdeal.Facts₀ Cert.Blend
open Idealize.ShloMosaic Idealize.ShloMosaic.TcCoe Idealize.ShloMosaic.Tactic

theorem wrap_eq (n : Fin 256) :
    (if IntOp.cmpi .slt (BitVec.ofNat 32 n.val) 0#32 = 1#1 then IntOp.addi (BitVec.ofNat 32 n.val) 256#32 else BitVec.ofNat 32 n.val) = BitVec.ofNat 32 n.val := by
  revert n; decide
theorem inside_eq (n : Fin 256) :
    IntOp.andi (IntOp.cmpi .sge (BitVec.ofNat 32 n.val) 0#32) (IntOp.cmpi .sle (BitVec.ofNat 32 n.val) 255#32) = 1#1 := by
  revert n; decide
theorem clamp_eq (n : Fin 256) : min (BitVec.ofNat 32 n.val).toInt.toNat (256 - 1) = n.val := by
  revert n; decide

theorem exists_ix5 {n0 n1 n2 n3 n4 : ℕ} (i : (⟨5, ![n0, n1, n2, n3, n4]⟩ : Shape).Idx) : ∃ a b c e f, i = ix5 a b c e f := by
  refine ⟨i 0, i 1, i 2, i 3, i 4, ?_⟩
  funext a
  match a with
  | ⟨0, _⟩ => rfl
  | ⟨1, _⟩ => rfl
  | ⟨2, _⟩ => rfl
  | ⟨3, _⟩ => rfl
  | ⟨4, _⟩ => rfl

theorem batch1_at (b : Fin 4) (k : Fin 10) (y x : Fin 128) (p : IVec S4x10x128x128x1 32) (a : Fin 5)
    (ha : a ∈ gather_S4x256x1x128x128_S4x10x128x128x1_S4x10x1x128x128_2_1_034_023_1_4_11111.operandBatchingDims) (n : Fin 256) :
    GatherDims.start gather_S4x256x1x128x128_S4x10x128x128x1_S4x10x1x128x128_2_1_034_023_1_4_11111 (ix5 b k 0 y x) p a + GatherDims.batchCoord gather_S4x256x1x128x128_S4x10x128x128x1_S4x10x1x128x128_2_1_034_023_1_4_11111 (ix5 b k 0 y x) a + GatherDims.offCoord gather_S4x256x1x128x128_S4x10x128x128x1_S4x10x1x128x128_2_1_034_023_1_4_11111 (ix5 b k 0 y x) a
      = (ix5 b n (0 : Fin 1) y x a).val := by
  rw [GatherDims.start_batching _ _ _ _ ha, GatherDims.offCoord_eq_zero _ _ _ (fun h => ((GatherDims.mem_sKept _ _).mp h).2 ha)]
  unfold GatherDims.batchCoord
  rw [dif_pos ha]
  have ha' : a = 0 ∨ a = 3 ∨ a = 4 := by
    have : a ∈ ([0, 3, 4] : List (Fin 5)) := ha
    simpa using this
  rcases ha' with rfl | rfl | rfl <;> simp <;> rfl

section plane
variable (X : FVec Ideal S4x256x1x128x128 .f32) (i : IVec S4x10x1x128x128 32) (q : S4x10x1x128x128.Idx → Fin 256) (hi : ∀ j, i j = BitVec.ofNat 32 (q j).val)
include hi

theorem pos1_at (b : Fin 4) (k : Fin 10) (y x : Fin 128) : pos1 i (ix5 b k y x 0) = BitVec.ofNat 32 (q (ix5 b k 0 y x)).val := by
  unfold pos1
  rw [shapeCast_apply _ _ _ (ix5 b k 0 y x) (by rw [Shape.rowMajor_val_five, Shape.rowMajor_val_five]; simp)]
  refine Eq.trans ?_ (wrap_eq (q (ix5 b k 0 y x)))
  rw [← hi]
  rfl

theorem in1_one (j : S4x10x128x128x1.Idx) : in1 (pos1 i) j = 1#1 := by
  obtain ⟨b, k, y, x, z, rfl⟩ := exists_ix5 j
  obtain rfl : z = 0 := Subsingleton.elim (α := Fin 1) _ _
  refine Eq.trans ?_ (inside_eq (q (ix5 b k 0 y x)))
  rw [← pos1_at i q hi]
  rfl

theorem take1_at (b : Fin 4) (k : Fin 10) (y x : Fin 128) : take1 X i (ix5 b k 0 y x) = X (ix5 b (q (ix5 b k 0 y x)) 0 y x) := by
  have hr : ∀ j, Host.reduce IntOp.andi (in1 (pos1 i)) (constantI S_ 1 1#1) reducesTo_S4x10x128x128x1_S4x10x128x128_d4 h_S_ j = 1#1 :=
    fun j => Host.reduce_andi_one (in1 (pos1 i)) (constantI S_ 1 1#1) reducesTo_S4x10x128x128x1_S4x10x128x128_d4 h_S_ j rfl (in1_one i q hi)
  have hs : take1 X i (ix5 b k 0 y x)
      = Host.gather gather_S4x256x1x128x128_S4x10x128x128x1_S4x10x1x128x128_2_1_034_023_1_4_11111 X (pos1 i) (ix5 b k 0 y x) := by
    unfold take1
    unfold select broadcastInDim
    rw [hr]
    rfl
  rw [hs]
  unfold Host.gather
  refine congrArg X ?_
  funext a
  refine Fin.ext ?_
  have hsi : ∀ c, gather_S4x256x1x128x128_S4x10x128x128x1_S4x10x1x128x128_2_1_034_023_1_4_11111.siIdx (ix5 b k 0 y x) c = ix5 b k y x 0 := by
    intro c
    have hc : c.val = 0 := Nat.lt_one_iff.mp c.2
    funext e; refine Fin.ext ?_
    match e with
    | ⟨0, _⟩ => rfl
    | ⟨1, _⟩ => rfl
    | ⟨2, _⟩ => rfl
    | ⟨3, _⟩ => rfl
    | ⟨4, _⟩ => exact hc
  show GatherDims.start _ (ix5 b k 0 y x) (pos1 i) a + GatherDims.batchCoord _ (ix5 b k 0 y x) a + GatherDims.offCoord _ (ix5 b k 0 y x) a = _
  have ha : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases ha with rfl | rfl | rfl | rfl | rfl
  · exact batch1_at b k y x (pos1 i) 0 (show (0 : Fin 5) ∈ [(0 : Fin 5), 3, 4] by decide) _
  · have h1 : GatherDims.start gather_S4x256x1x128x128_S4x10x128x128x1_S4x10x1x128x128_2_1_034_023_1_4_11111 (ix5 b k 0 y x) (pos1 i) (1 : Fin 5) = (q (ix5 b k 0 y x)).val := by
      unfold GatherDims.start
      rw [dif_pos (show (1 : Fin 5) ∈ gather_S4x256x1x128x128_S4x10x128x128x1_S4x10x1x128x128_2_1_034_023_1_4_11111.startIndexMap from List.mem_singleton.mpr rfl), hsi, pos1_at i q hi]
      exact clamp_eq (q (ix5 b k 0 y x))
    rw [h1, GatherDims.batchCoord_eq_zero _ _ _ (by decide), GatherDims.offCoord_eq_zero _ _ _ (by decide)]
    rfl
  · rfl
  · exact batch1_at b k y x (pos1 i) 3 (show (3 : Fin 5) ∈ [(0 : Fin 5), 3, 4] by decide) _
  · exact batch1_at b k y x (pos1 i) 4 (show (4 : Fin 5) ∈ [(0 : Fin 5), 3, 4] by decide) _
end plane

theorem exists_ix6 {n0 n1 n2 n3 n4 n5 : ℕ} (i : (⟨6, ![n0, n1, n2, n3, n4, n5]⟩ : Shape).Idx) : ∃ a b c e f g, i = ix6 a b c e f g := by
  refine ⟨i 0, i 1, i 2, i 3, i 4, i 5, ?_⟩
  funext a
  match a with
  | ⟨0, _⟩ => rfl
  | ⟨1, _⟩ => rfl
  | ⟨2, _⟩ => rfl
  | ⟨3, _⟩ => rfl
  | ⟨4, _⟩ => rfl
  | ⟨5, _⟩ => rfl

theorem batch3_at (b : Fin 4) (k : Fin 10) (c : Fin 3) (y x : Fin 128) (p : IVec S4x10x3x128x128x1 32) (a : Fin 5)
    (ha : a ∈ gather_S4x256x3x128x128_S4x10x3x128x128x1_S4x10x3x128x128_n_1_0234_0234_1_5_11111.operandBatchingDims) (n : Fin 256) :
    GatherDims.start gather_S4x256x3x128x128_S4x10x3x128x128x1_S4x10x3x128x128_n_1_0234_0234_1_5_11111 (ix5 b k c y x) p a + GatherDims.batchCoord gather_S4x256x3x128x128_S4x10x3x128x128x1_S4x10x3x128x128_n_1_0234_0234_1_5_11111 (ix5 b k c y x) a + GatherDims.offCoord gather_S4x256x3x128x128_S4x10x3x128x128x1_S4x10x3x128x128_n_1_0234_0234_1_5_11111 (ix5 b k c y x) a
      = (ix5 b n c y x a).val := by
  rw [GatherDims.start_batching _ _ _ _ ha, GatherDims.offCoord_eq_zero _ _ _ (fun h => ((GatherDims.mem_sKept _ _).mp h).2 ha)]
  unfold GatherDims.batchCoord
  rw [dif_pos ha]
  have ha' : a = 0 ∨ a = 2 ∨ a = 3 ∨ a = 4 := by
    have : a ∈ ([0, 2, 3, 4] : List (Fin 5)) := ha
    simpa using this
  rcases ha' with rfl | rfl | rfl | rfl <;> simp <;> rfl

section colours
variable (X : FVec Ideal S4x256x3x128x128 .f32) (i : IVec S4x10x3x128x128 32) (q : S4x10x3x128x128.Idx → Fin 256) (hi : ∀ j, i j = BitVec.ofNat 32 (q j).val)
include hi

theorem pos3_at (b : Fin 4) (k : Fin 10) (c : Fin 3) (y x : Fin 128) : pos3 i (ix6 b k c y x 0) = BitVec.ofNat 32 (q (ix5 b k c y x)).val := by
  unfold pos3
  rw [shapeCast_apply _ _ _ (ix5 b k c y x) (by
    rw [Shape.rowMajor_val_five, Shape.rowMajor_val_succ, Shape.rowMajor_val_five]
    simp [Shape.numel, Fin.prod_univ_succ]
    ring)]
  refine Eq.trans ?_ (wrap_eq (q (ix5 b k c y x)))
  rw [← hi]
  rfl

theorem in3_one (j : S4x10x3x128x128x1.Idx) : in3 (pos3 i) j = 1#1 := by
  obtain ⟨b, k, c, y, x, z, rfl⟩ := exists_ix6 j
  obtain rfl : z = 0 := Subsingleton.elim (α := Fin 1) _ _
  refine Eq.trans ?_ (inside_eq (q (ix5 b k c y x)))
  rw [← pos3_at i q hi]
  rfl

theorem take3_at (b : Fin 4) (k : Fin 10) (c : Fin 3) (y x : Fin 128) : take3 X i (ix5 b k c y x) = X (ix5 b (q (ix5 b k c y x)) c y x) := by
  have hr : ∀ j, Host.reduce IntOp.andi (in3 (pos3 i)) (constantI S_ 1 1#1) reducesTo_S4x10x3x128x128x1_S4x10x3x128x128_d5 h_S_ j = 1#1 :=
    fun j => Host.reduce_andi_one (in3 (pos3 i)) (constantI S_ 1 1#1) reducesTo_S4x10x3x128x128x1_S4x10x3x128x128_d5 h_S_ j rfl (in3_one i q hi)
  have hs : take3 X i (ix5 b k c y x) = Host.gather gather_S4x256x3x128x128_S4x10x3x128x128x1_S4x10x3x128x128_n_1_0234_0234_1_5_11111 X (pos3 i) (ix5 b k c y x) := by
    unfold take3 select
    rw [hr]
    rfl
  rw [hs]
  unfold Host.gather
  refine congrArg X ?_
  funext a
  refine Fin.ext ?_
  have hsi : ∀ w, gather_S4x256x3x128x128_S4x10x3x128x128x1_S4x10x3x128x128_n_1_0234_0234_1_5_11111.siIdx (ix5 b k c y x) w = ix6 b k c y x 0 := by
    intro w
    have hw : w.val = 0 := Nat.lt_one_iff.mp w.2
    funext e; refine Fin.ext ?_
    match e with
    | ⟨0, _⟩ => rfl
    | ⟨1, _⟩ => rfl
    | ⟨2, _⟩ => rfl
    | ⟨3, _⟩ => rfl
    | ⟨4, _⟩ => rfl
    | ⟨5, _⟩ => exact hw
  show GatherDims.start _ (ix5 b k c y x) (pos3 i) a + GatherDims.batchCoord _ (ix5 b k c y x) a + GatherDims.offCoord _ (ix5 b k c y x) a = _
  by_cases h1 : a = (1 : Fin 5)
  · subst h1
    have h1 : GatherDims.start gather_S4x256x3x128x128_S4x10x3x128x128x1_S4x10x3x128x128_n_1_0234_0234_1_5_11111 (ix5 b k c y x) (pos3 i) (1 : Fin 5) = (q (ix5 b k c y x)).val := by
      unfold GatherDims.start
      rw [dif_pos (show (1 : Fin 5) ∈ gather_S4x256x3x128x128_S4x10x3x128x128x1_S4x10x3x128x128_n_1_0234_0234_1_5_11111.startIndexMap from List.mem_singleton.mpr rfl), hsi, pos3_at i q hi]
      exact clamp_eq (q (ix5 b k c y x))
    rw [h1, GatherDims.batchCoord_eq_zero _ _ _ (by decide), GatherDims.offCoord_eq_zero _ _ _ (by decide)]
    rfl
  · refine batch3_at b k c y x (pos3 i) a (show a ∈ [(0 : Fin 5), 2, 3, 4] from ?_) _
    have : ∀ a : Fin 5, a ≠ 1 → a ∈ [(0 : Fin 5), 2, 3, 4] := by decide
    exact this a h1
end colours

end Cert.ReferenceIdeal.Hand

end
-- ==== Proof.RefPixel.lean ====
/-
  The reference's results at a pixel: the chosen strokes blended back to front.
-/
module

public import proofs.«01_k».proof.Proof.RefTake

@[expose] public section

noncomputable section

namespace Cert.ReferenceIdeal.Hand

open Cert.ReferenceIdeal Cert.ReferenceIdeal.Facts₀ Cert.Blend
open Idealize.ShloMosaic Idealize.ShloMosaic.TcCoe Idealize.ShloMosaic.Tactic

theorem pick1_at (X : FVec Ideal S4x10x1x128x128 .f32) (k : ℕ) (hk : k < 10) (b : Fin 4) (y x : Fin 128) :
    pick1 X k hk (ix4 b 0 y x) = X (ix5 b ⟨k, hk⟩ 0 y x) := by
  unfold pick1
  rw [shapeCast_apply _ _ _ (ix5 b 0 0 y x) (by rw [Shape.rowMajor_val_five, Shape.rowMajor_val_four]; simp)]
  unfold extractStridedSlice
  refine congrArg X ?_
  funext a
  match a with
  | ⟨0, _⟩ => exact Fin.ext (Nat.zero_add _)
  | ⟨1, _⟩ => rfl
  | ⟨2, _⟩ => rfl
  | ⟨3, _⟩ => exact Fin.ext (Nat.zero_add _)
  | ⟨4, _⟩ => exact Fin.ext (Nat.zero_add _)
theorem pick3_at (X : FVec Ideal S4x10x3x128x128 .f32) (k : ℕ) (hk : k < 10) (b : Fin 4) (c : Fin 3) (y x : Fin 128) :
    pick3 X k hk (ix4 b c y x) = X (ix5 b ⟨k, hk⟩ c y x) := by
  unfold pick3
  rw [shapeCast_apply _ _ _ (ix5 b 0 c y x) (by rw [Shape.rowMajor_val_five, Shape.rowMajor_val_four]; simp)]
  unfold extractStridedSlice
  refine congrArg X ?_
  funext a
  match a with
  | ⟨0, _⟩ => exact Fin.ext (Nat.zero_add _)
  | ⟨1, _⟩ => rfl
  | ⟨2, _⟩ => exact Fin.ext (Nat.zero_add _)
  | ⟨3, _⟩ => exact Fin.ext (Nat.zero_add _)
  | ⟨4, _⟩ => exact Fin.ext (Nat.zero_add _)
theorem wide_at (X : FVec Ideal S4x1x128x128 .f32) (b : Fin 4) (c : Fin 3) (y x : Fin 128) : wide X (ix4 b c y x) = X (ix4 b 0 y x) := by
  unfold wide broadcastInDim
  refine congrArg X ?_
  funext a
  match a with
  | ⟨0, _⟩ => rfl
  | ⟨1, _⟩ => rfl
  | ⟨2, _⟩ => rfl
  | ⟨3, _⟩ => rfl
theorem ones1_at (j : S4x1x128x128.Idx) : (ones1 : FVec Ideal S4x1x128x128 .f32) j = 1 := Ideal.ofBits_one_f32
theorem ones3_at (j : S4x3x128x128.Idx) : (ones3 : FVec Ideal S4x3x128x128 .f32) j = 1 := Ideal.ofBits_one_f32

/-- A stroke blended over what lies behind it. -/
def over (α κ : Fin 256 → EReal) (n : Fin 256) (z : EReal) : EReal := z * (1 - α n) + α n * κ n

theorem drop_step (v : Fin 256 → Bool) (n : ℕ) (h : n + 1 ≤ 10) :
    ((order v).take 10).drop (10 - (n + 1)) = nth v ⟨9 - n, by omega⟩ :: ((order v).take 10).drop (10 - n) := by
  have hl : ((order v).take 10).length = 10 := by rw [List.length_take, length_order]; rfl
  rw [List.drop_eq_getElem_cons (by omega)]
  congr 1
  · rw [List.getElem_take]; unfold nth
    congr 1; show 10 - (n + 1) = 9 - n; omega
  · congr 1; omega

theorem back3_at (α κ : Fin 256 → EReal) (v : Fin 256 → Bool) (a : FVec Ideal S4x10x1x128x128 .f32) (c : FVec Ideal S4x10x3x128x128 .f32)
    (b : Fin 4) (ch : Fin 3) (y x : Fin 128) (ha : ∀ k : Fin 10, a (ix5 b k 0 y x) = α (nth v (k.castLE (by decide))))
    (hc : ∀ k : Fin 10, c (ix5 b k ch y x) = κ (nth v (k.castLE (by decide)))) :
    ∀ (n : ℕ) (h : n ≤ 10), back3 a c n h (ix4 b ch y x) = (((order v).take 10).drop (10 - n)).foldr (over α κ) 1
  | 0, _ => by
    rw [List.drop_eq_nil_of_le (by rw [List.length_take]; exact min_le_left _ _)]
    exact ones3_at _
  | n + 1, h => by
    rw [drop_step v n h, List.foldr_cons, ← back3_at α κ v a c b ch y x ha hc n (Nat.le_of_succ_le h)]
    have h1 : wide (subf ones1 (pick1 a (9 - n) (by omega))) (ix4 b ch y x) = 1 - α (nth v ⟨9 - n, by omega⟩) := by
      rw [wide_at]
      show ones1 (ix4 b 0 y x) - pick1 a (9 - n) (by omega) (ix4 b 0 y x) = _
      rw [ones1_at, pick1_at, ha]; rfl
    have h2 : wide (pick1 a (9 - n) (by omega)) (ix4 b ch y x) = α (nth v ⟨9 - n, by omega⟩) := by
      rw [wide_at, pick1_at, ha]; rfl
    have h3 : pick3 c (9 - n) (by omega) (ix4 b ch y x) = κ (nth v ⟨9 - n, by omega⟩) := by
      rw [pick3_at, hc]; rfl
    show back3 a c n _ (ix4 b ch y x) * wide (subf ones1 (pick1 a (9 - n) (by omega))) (ix4 b ch y x)
      + wide (pick1 a (9 - n) (by omega)) (ix4 b ch y x) * pick3 c (9 - n) (by omega) (ix4 b ch y x) = _
    rw [h1, h2, h3, over]

theorem back1_at (α κ : Fin 256 → EReal) (v : Fin 256 → Bool) (a d : FVec Ideal S4x10x1x128x128 .f32)
    (b : Fin 4) (y x : Fin 128) (ha : ∀ k : Fin 10, a (ix5 b k 0 y x) = α (nth v (k.castLE (by decide))))
    (hd : ∀ k : Fin 10, d (ix5 b k 0 y x) = κ (nth v (k.castLE (by decide)))) :
    ∀ (n : ℕ) (h : n ≤ 10), back1 a d n h (ix4 b 0 y x) = (((order v).take 10).drop (10 - n)).foldr (over α κ) 1
  | 0, _ => by
    rw [List.drop_eq_nil_of_le (by rw [List.length_take]; exact min_le_left _ _)]
    exact ones1_at _
  | n + 1, h => by
    rw [drop_step v n h, List.foldr_cons, ← back1_at α κ v a d b y x ha hd n (Nat.le_of_succ_le h)]
    have h2 : pick1 a (9 - n) (by omega) (ix4 b 0 y x) = α (nth v ⟨9 - n, by omega⟩) := by rw [pick1_at, ha]; rfl
    have h3 : pick1 d (9 - n) (by omega) (ix4 b 0 y x) = κ (nth v ⟨9 - n, by omega⟩) := by rw [pick1_at, hd]; rfl
    show back1 a d n _ (ix4 b 0 y x) * (ones1 (ix4 b 0 y x) - pick1 a (9 - n) (by omega) (ix4 b 0 y x))
      + pick1 a (9 - n) (by omega) (ix4 b 0 y x) * pick1 d (9 - n) (by omega) (ix4 b 0 y x) = _
    rw [h2, h3, ones1_at, over]

variable (A : FVec Ideal S4x256x1x128x128 .f32) (P : FVec Ideal S4x256x8 .f32) (C : FVec Ideal S4x256x3x128x128 .f32)

/-- The chosen strokes as positions. -/
def chosen (j : S4x10x1x128x128.Idx) : Fin 256 :=
  nth (vis A (j 0) (j 3) (j 4)) ⟨(j 1).val, lt_trans (j 1).2 (by decide)⟩

theorem top_chosen (j : S4x10x1x128x128.Idx) : top A j = BitVec.ofNat 32 (chosen A j).val := by
  obtain ⟨b, k, z, y, x, rfl⟩ := exists_ix5 j
  obtain rfl : z = 0 := Subsingleton.elim (α := Fin 1) _ _
  exact top_at A b y x k
theorem top3_chosen (j : S4x10x3x128x128.Idx) : top3 A j = BitVec.ofNat 32 (chosen A (ix5 (j 0) (j 1) 0 (j 3) (j 4))).val := by
  rw [← top_chosen]
  unfold top3 broadcastInDim
  refine congrArg (top A) ?_
  funext a
  match a with
  | ⟨0, _⟩ => rfl
  | ⟨1, _⟩ => rfl
  | ⟨2, _⟩ => rfl
  | ⟨3, _⟩ => rfl
  | ⟨4, _⟩ => rfl

theorem densOf_at (b : Fin 4) (n : Fin 256) (y x : Fin 128) :
    densOf A P (ix5 b n 0 y x) = (P (ix3 b n 2) * P (ix3 b n 3)) * (if vis A b y x n then 1 else 0) := by
  have h1 : uitofp (F := Ideal) .f32 (mask A) (ix5 b n 0 y x) = if vis A b y x n then 1 else 0 := by
    show ((((mask A (ix5 b n 0 y x)).toNat : ℝ)) : EReal) = _
    rw [mask_at]; cases vis A b y x n <;> simp
  have h2 : ∀ (k : ℕ) (hs : S4x256x8.Slices ![0, 0, k] S4x256x1) (hk : k < 8),
      shapeCast S4x256 (extractStridedSlice S4x256x1 ![0, 0, k] P hs) shapeCasts_S4x256x1_S4x256 (ix2 b n) = P (ix3 b n ⟨k, hk⟩) := by
    intro k hs hk
    rw [shapeCast_apply _ _ _ (ix3 b n 0) (by rw [Shape.rowMajor_val_three, Shape.rowMajor_val_two]; simp)]
    unfold extractStridedSlice
    refine congrArg P ?_
    funext a
    match a with
    | ⟨0, _⟩ => exact Fin.ext (Nat.zero_add _)
    | ⟨1, _⟩ => exact Fin.ext (Nat.zero_add _)
    | ⟨2, _⟩ => rfl
  have h3 : ∀ M : FVec Ideal S4x256 .f32, broadcastInDim S4x256x1x128x128 ![0, 1, 2, 3, 4] bcast_S4x256x1x1x1_S4x256x1x128x128_0_1_2_3_4
      (shapeCast S4x256x1x1x1 M shapeCasts_S4x256_S4x256x1x1x1) (ix5 b n 0 y x) = M (ix2 b n) := by
    intro M
    have hb : broadcastInDim S4x256x1x128x128 ![0, 1, 2, 3, 4] bcast_S4x256x1x1x1_S4x256x1x128x128_0_1_2_3_4
      (shapeCast S4x256x1x1x1 M shapeCasts_S4x256_S4x256x1x1x1) (ix5 b n 0 y x) = shapeCast S4x256x1x1x1 M shapeCasts_S4x256_S4x256x1x1x1 (ix5 b n 0 0 0) := by
      unfold broadcastInDim
      refine congrArg _ ?_
      funext a
      match a with
      | ⟨0, _⟩ => rfl
      | ⟨1, _⟩ => rfl
      | ⟨2, _⟩ => rfl
      | ⟨3, _⟩ => rfl
      | ⟨4, _⟩ => rfl
    rw [hb]
    exact shapeCast_apply _ _ _ (ix2 b n) (by rw [Shape.rowMajor_val_five, Shape.rowMajor_val_two]; simp)
  show broadcastInDim S4x256x1x128x128 ![0, 1, 2, 3, 4] bcast_S4x256x1x1x1_S4x256x1x128x128_0_1_2_3_4
      (shapeCast S4x256x1x1x1 _ shapeCasts_S4x256_S4x256x1x1x1) (ix5 b n 0 y x) * uitofp (F := Ideal) .f32 (mask A) (ix5 b n 0 y x) = _
  rw [h3, h1]
  refine congrArg (· * _) ?_
  exact congrArg₂ (fun p q : EReal => p * q) (h2 2 slices_S4x256x8_S4x256x1_0_0_2 (by decide)) (h2 3 slices_S4x256x8_S4x256x1_0_0_3 (by decide))

/-- The reference's canvas at a pixel. -/
theorem canvas_at (b : Fin 4) (ch : Fin 3) (y x : Fin 128) :
    canvas C A (ix4 b ch y x)
      = ((order (vis A b y x)).take 10).foldr (over (fun n => A (ix5 b n 0 y x)) (fun n => C (ix5 b n ch y x))) 1 := by
  refine back3_at (fun n => A (ix5 b n 0 y x)) (fun n => C (ix5 b n ch y x)) (vis A b y x) _ _ b ch y x (fun k => ?_) (fun k => ?_) 10 le_rfl
  · exact take1_at A (top A) (chosen A) (top_chosen A) b k y x
  · exact take3_at C (top3 A) _ (top3_chosen A) b k ch y x
/-- The reference's density map at a pixel. -/
theorem dens_at (b : Fin 4) (y x : Fin 128) :
    dens A P (ix4 b 0 y x)
      = ((order (vis A b y x)).take 10).foldr (over (fun n => A (ix5 b n 0 y x))
          (fun n => (P (ix3 b n 2) * P (ix3 b n 3)) * (if vis A b y x n then 1 else 0))) 1 := by
  refine back1_at (fun n => A (ix5 b n 0 y x)) _ (vis A b y x) _ _ b y x (fun k => ?_) (fun k => ?_) 10 le_rfl
  · exact take1_at A (top A) (chosen A) (top_chosen A) b k y x
  · exact (take1_at (densOf A P) (top A) (chosen A) (top_chosen A) b k y x).trans (densOf_at A P b _ y x)

end Cert.ReferenceIdeal.Hand

end
-- ==== Proof.Agree.lean ====
/-
  The kernel's results and the reference's agree on finite arguments: at each pixel, blending the first ten strokes of the
  order front to back is blending them back to front.
-/
module

public import proofs.«01_k».proof.Proof.Pixel
public import proofs.«01_k».proof.Proof.RefPixel

@[expose] public section

noncomputable section

namespace Cert.Agree

open Cert.Blend Cert.Kernel.Hand
open Cert.ReferenceIdeal.Hand (over vis)
open Idealize.ShloMosaic Idealize.ShloMosaic.TcCoe Idealize.ShloMosaic.Tactic

/-- A value is a real number. -/
def IsReal (x : EReal) : Prop := ∃ r : ℝ, x = r

theorem isReal_of_abs_lt (x : EReal) (h : max x (-x) < ⊤) : IsReal x := by
  induction x using EReal.rec with
  | bot => simp at h
  | coe r => exact ⟨r, rfl⟩
  | top => simp at h
theorem IsReal.mul {x y : EReal} : IsReal x → IsReal y → IsReal (x * y)
  | ⟨a, ha⟩, ⟨b, hb⟩ => ⟨a * b, by rw [ha, hb, EReal.coe_mul]⟩
theorem isReal_ite (p : Bool) : IsReal (if p then 1 else 0) := by
  cases p
  · exact ⟨0, by simp⟩
  · exact ⟨1, by simp⟩

theorem foldr_coe (α κ : Fin 256 → ℝ) (l : List (Fin 256)) :
    ((l.foldr (fun n z => z * (1 - α n) + α n * κ n) 1 : ℝ) : EReal)
      = l.foldr (over (fun n => (α n : EReal)) (fun n => (κ n : EReal))) 1 := by
  induction l with
  | nil => exact EReal.coe_one
  | cons n l ih =>
    rw [List.foldr_cons, List.foldr_cons, ← ih, over, EReal.coe_add, EReal.coe_mul, EReal.coe_mul, EReal.coe_sub, EReal.coe_one]

/-- Ten strokes front to back are the ten strokes back to front. -/
theorem blend (v : Fin 256 → Bool) (a k : Fin 256 → EReal) (ha : ∀ n, IsReal (a n)) (hk : ∀ n, IsReal (k n)) :
    (Px.run a k (order v) ⟨1, 0, 0#32⟩).X + (Px.run a k (order v) ⟨1, 0, 0#32⟩).T = ((order v).take 10).foldr (over a k) 1 := by
  choose α hα using ha
  choose κ hκ using hk
  obtain rfl : a = fun n => (α n : EReal) := funext hα
  obtain rfl : k = fun n => (κ n : EReal) := funext hκ
  have h := run_eq α κ (order v) 0 1 0 (Nat.zero_le _) (by rw [length_order]; decide)
  rw [zero_add, one_mul, Nat.sub_zero, foldr_coe, EReal.coe_one, EReal.coe_zero] at h
  exact h

variable (I : Ins Ideal) (hA : ∀ i, IsReal (I.A i)) (hC : ∀ i, IsReal (I.C i)) (hP : ∀ i, IsReal (I.P i))

include hA hC hP in
theorem val_real (b : Fin 4) (sel : Fin 4) (j : Cert.Kernel.S128x128.Idx) (n : Fin 256) : IsReal (I.val b sel j n) := by
  match sel with
  | 0 => exact hC _
  | 1 => exact hC _
  | 2 => exact hC _
  | 3 => exact ((hP _).mul (hP _)).mul (isReal_ite _)

theorem vis_eq (b : Fin 4) (y x : Fin 128) : I.vis b (ix2 y x) = vis I.A b y x := funext fun _ => rfl

include hA hC hP in
theorem pixel (b : Fin 4) (sel : Fin 4) (y x : Fin 128) (κ : Fin 256 → EReal) (hκ : ∀ n, I.val b sel (ix2 y x) n = κ n) :
    ((I.stFill b).px sel (ix2 y x)).X + ((I.stFill b).px sel (ix2 y x)).T
      = ((order (vis I.A b y x)).take 10).foldr (over (fun n => I.A (ix5 b n 0 y x)) κ) 1 := by
  rw [I.stFill_px, vis_eq, ← funext hκ]
  exact blend (vis I.A b y x) (fun n => I.A (ix5 b n 0 y x)) _ (fun n => hA _) (fun n => val_real I hA hC hP b sel (ix2 y x) n)

theorem px_add (st : St Ideal Cert.Kernel.S128x128) (sel : Fin 4) (X : Cert.Kernel.S128x128.Idx → EReal)
    (hX : ∀ j, (![st.X0 j, st.X1 j, st.X2 j, st.D j] : Fin 4 → EReal) sel = X j) (j : Cert.Kernel.S128x128.Idx) :
    (st.px sel j).X + (st.px sel j).T = addf (F := Ideal) (φ := .f32) X st.T j := congrArg (· + st.T j) (hX j)

theorem canvas_kernel (st : Fin 4 → St Ideal Cert.Kernel.S128x128) (h : ∀ b, I.stFill b = st b) (b : Fin 4) (y x : Fin 128) (ch : Fin 3) :
    I.canvas (ix4 b ch y x) = ((st b).px (ch.castLE (by decide)) (ix2 y x)).X + ((st b).px (ch.castLE (by decide)) (ix2 y x)).T := by
  unfold Ins.canvas
  match ch with
  | ⟨0, _⟩ => exact (congrArg (fun s : St Ideal Cert.Kernel.S128x128 => addf s.X0 s.T (ix2 y x)) (h b)).trans (px_add (st b) 0 _ (fun _ => rfl) _).symm
  | ⟨1, _⟩ => exact (congrArg (fun s : St Ideal Cert.Kernel.S128x128 => addf s.X1 s.T (ix2 y x)) (h b)).trans (px_add (st b) 1 _ (fun _ => rfl) _).symm
  | ⟨2, _⟩ => exact (congrArg (fun s : St Ideal Cert.Kernel.S128x128 => addf s.X2 s.T (ix2 y x)) (h b)).trans (px_add (st b) 2 _ (fun _ => rfl) _).symm

theorem dens_kernel (st : Fin 4 → St Ideal Cert.Kernel.S128x128) (h : ∀ b, I.stFill b = st b) (b : Fin 4) (y x : Fin 128) :
    I.dens (ix4 b 0 y x) = ((st b).px 3 (ix2 y x)).X + ((st b).px 3 (ix2 y x)).T :=
  (congrArg (fun s : St Ideal Cert.Kernel.S128x128 => addf s.D s.T (ix2 y x)) (h b)).trans (px_add (st b) 3 _ (fun _ => rfl) _).symm

include hA hC hP in
/-- The canvases agree. -/
theorem canvas : Cert.ReferenceIdeal.Hand.canvas I.C I.A = I.canvas := by
  funext i
  obtain ⟨b, ch, y, x, rfl⟩ : ∃ b ch y x, i = ix4 b ch y x := ⟨i 0, i 1, i 2, i 3, by
    funext a
    match a with
    | ⟨0, _⟩ => rfl
    | ⟨1, _⟩ => rfl
    | ⟨2, _⟩ => rfl
    | ⟨3, _⟩ => rfl⟩
  refine (Cert.ReferenceIdeal.Hand.canvas_at I.A I.C b ch y x).trans ?_
  rw [canvas_kernel I _ (fun _ => rfl) b y x ch]
  refine (pixel I hA hC hP b (ch.castLE (by decide)) y x (fun n => I.C (ix5 b n ch y x)) (fun n => ?_)).symm
  match ch with
  | ⟨0, _⟩ => rfl
  | ⟨1, _⟩ => rfl
  | ⟨2, _⟩ => rfl

include hA hC hP in
/-- The density maps agree. -/
theorem dens : Cert.ReferenceIdeal.Hand.dens I.A I.P = I.dens := by
  funext i
  obtain ⟨b, y, x, rfl⟩ : ∃ b y x, i = ix4 b 0 y x := ⟨i 0, i 2, i 3, by
    funext a
    match a with
    | ⟨0, _⟩ => rfl
    | ⟨1, _⟩ => exact Subsingleton.elim (α := Fin 1) _ _
    | ⟨2, _⟩ => rfl
    | ⟨3, _⟩ => rfl⟩
  refine (Cert.ReferenceIdeal.Hand.dens_at I.A I.P b y x).trans ?_
  rw [dens_kernel I _ (fun _ => rfl) b y x]
  exact (pixel I hA hC hP b 3 y x _ (fun n => rfl)).symm

end Cert.Agree

end
-- ==== Proof.Finite.lean ====
/-
  The precondition `finite` read off: every element of every argument is a real number.
-/
module

public import proofs.«01_k».proof.Defs
public import proofs.«01_k».proof.Proof.Agree
public import Idealize.ShloMosaic.Lib.ReduceAll

@[expose] public section

noncomputable section

namespace Cert.Pre_finite

open Cert.Agree
open Idealize.ShloMosaic Idealize.ShloMosaic.TcCoe

theorem facts : Facts := by constructor <;> decide

theorem top_word : (FloatOps.ofBits (F := Ideal) .f32 0x7F800000#32 : EReal) = ⊤ := by
  show Ideal.ofBits .f32 0x7F800000#32 = ⊤
  simp [Ideal.ofBits, Ideal.ieee]

/-- A comparison below infinity says that the value is real. -/
theorem real_of_cmp (x y : EReal) (hy : y = ⊤) (h : Ideal.cmp .olt (max x (-x)) y = 1#1) : IsReal x := by
  subst hy
  refine isReal_of_abs_lt x ?_
  by_contra hn
  simp [Ideal.cmp, hn] at h

variable [Facts] (C : FVec Ideal S4x256x3x128x128 .f32) (A : FVec Ideal S4x256x1x128x128 .f32) (P : FVec Ideal S4x256x8 .f32)

instance : Subsingleton S_.Idx := ⟨fun _ _ => funext fun a => a.elim0⟩

theorem reals (h : fn (F := Ideal) C A P = fun _ => 1#1) : (∀ i, IsReal (C i)) ∧ (∀ i, IsReal (A i)) ∧ (∀ i, IsReal (P i)) := by
  have e := congrFun h (Shape.Idx.first Facts.h_S_)
  dsimp only [fn] at e
  obtain ⟨e₁, e₃⟩ := IntOp.andi_eq_one.1 e
  obtain ⟨e₁, e₂⟩ := IntOp.andi_eq_one.1 e₁
  refine ⟨fun i => ?_, fun i => ?_, fun i => ?_⟩
  · exact real_of_cmp (C i) _ top_word (Host.reduce_andi_all _ _ Facts.reducesTo_S4x256x3x128x128_S_d0_1_2_3_4 Facts.h_S_ _ e₁ i)
  · exact real_of_cmp (A i) _ top_word (Host.reduce_andi_all _ _ Facts.reducesTo_S4x256x1x128x128_S_d0_1_2_3_4 Facts.h_S_ _ e₂ i)
  · exact real_of_cmp (P i) _ top_word (Host.reduce_andi_all _ _ Facts.reducesTo_S4x256x8_S_d0_1_2 Facts.h_S_ _ e₃ i)

end Cert.Pre_finite

end
-- ==== Proof.lean ====
/-
  The certificate's claim, from the runs of the three programs.
-/
module

public import proofs.«01_k».proof.Defs
public import proofs.«01_k».proof.Proof.Frame
public import proofs.«01_k».proof.Proof.Ideal
public import proofs.«01_k».proof.Proof.RefRun
public import proofs.«01_k».proof.Proof.Finite

@[expose] public section

namespace Cert.Proof

open Idealize.ShloMosaic Idealize.ShloMosaic.TcCoe Idealize.SL.Sem

/-- The kernel over the bit-exact floats runs, leaves its arguments as they were and every semaphore at zero. -/
theorem frame_K : Cert.quiescent_Kernel := fun m g _ =>
  (θ_run Cert.Kernel.defs _ _).mono (fun _ h => ⟨fun c => (h.1 c).2.2, h.2⟩) (Cert.Kernel.Hand.run m g)

/-- The same of the kernel over the ideal floats. -/
theorem frame_I : Cert.quiescent_KernelIdeal := fun m g _ =>
  (θ_run Cert.KernelIdeal.defs _ _).mono (fun _ h => ⟨fun c => (h.1 c).2.2, h.2⟩) (Cert.KernelIdeal.Hand.run m g)

/-- The same of the reference. -/
theorem frame_R : Cert.quiescent_ReferenceIdeal := fun m g _ => Cert.ReferenceIdeal.Hand.frame m g

/-- The reference computes, on finite arguments, what the kernel over the ideal floats computes. -/
theorem algebraic : Cert.algebraic_KernelIdeal_ReferenceIdeal_pre_finite (hKernelIdeal := Cert.KernelIdeal.Gen.facts)
    (hReferenceIdeal := Cert.ReferenceIdeal.Hand.facts) (hPre_finite := Cert.Pre_finite.facts) := by
  intro m g m' g' hpre hagree
  refine ⟨fun c => (Cert.Kernel.Hand.ins m c).canvas, fun c => (Cert.Kernel.Hand.ins m c).dens, ?_, ?_⟩
  · exact (θ_run Cert.KernelIdeal.defs _ _).mono (fun _ h => h.1) (Cert.KernelIdeal.Hand.run m g)
  · refine (θ_run Cert.ReferenceIdeal.defs _ _).mono (fun r h c => ?_) (Cert.ReferenceIdeal.Hand.run m' g')
    obtain ⟨h0, h1, h2⟩ := h.1 c
    obtain ⟨a0, a1, a2⟩ := hagree c
    obtain ⟨hC, hA, hP⟩ := letI := Cert.Pre_finite.facts; Cert.Pre_finite.reals _ _ _ (hpre c)
    refine ⟨h0.trans ?_, h1.trans ?_, h2⟩
    · rw [a0, a1]
      exact Cert.Agree.canvas (Cert.Kernel.Hand.ins m c) hA hC hP
    · rw [a1, a2]
      exact Cert.Agree.dens (Cert.Kernel.Hand.ins m c) hA hC hP

/-- Everything the certificate claims. -/
theorem claim : Cert.Claim :=
  ⟨Cert.Kernel.Gen.facts, Cert.KernelIdeal.Gen.facts, Cert.ReferenceIdeal.Hand.facts, Cert.Pre_finite.facts,
    frame_K, frame_I, fun m g _ => frame_I m g trivial, frame_R, fun m g _ => frame_R m g trivial, trivial, algebraic⟩

end Cert.Proof

end
